-- ==== Defs.lean ====
def Pre_SharedUp (m : (ℓ : Loc Cert.SharedUp.nD Cert.SharedUp.τ Cert.SharedUp.sig) → Buf (Elt Bits) ℓ) : Prop :=
  True

def Pre_SharedUpIdeal (m : (ℓ : Loc Cert.SharedUpIdeal.nD Cert.SharedUpIdeal.τ Cert.SharedUpIdeal.sig) → Buf (Elt Ideal) ℓ) : Prop :=
  True

def Pre_SharedUpIdeal_scale_not_zero [hPre_scale_not_zero : Cert.Pre_scale_not_zero.Facts] (m : (ℓ : Loc Cert.SharedUpIdeal.nD Cert.SharedUpIdeal.τ Cert.SharedUpIdeal.sig) → Buf (Elt Ideal) ℓ) : Prop :=
  ∀ c : Dev Cert.SharedUpIdeal.nD,
    (Cert.Pre_scale_not_zero.fn (F := Ideal) (m ((c.tc : Thread Cert.SharedUpIdeal.nD Cert.SharedUpIdeal.τ).loc Cert.SharedUpIdeal.main_arg0)) (m ((c.tc : Thread Cert.SharedUpIdeal.nD Cert.SharedUpIdeal.τ).loc Cert.SharedUpIdeal.main_arg1)) (m ((c.tc : Thread Cert.SharedUpIdeal.nD Cert.SharedUpIdeal.τ).loc Cert.SharedUpIdeal.main_arg2)) (m ((c.tc : Thread Cert.SharedUpIdeal.nD Cert.SharedUpIdeal.τ).loc Cert.SharedUpIdeal.main_arg3)) (m ((c.tc : Thread Cert.SharedUpIdeal.nD Cert.SharedUpIdeal.τ).loc Cert.SharedUpIdeal.main_arg4))) = (fun _ => 1#1)

def Pre_RefUpIdeal (m : (ℓ : Loc Cert.RefUpIdeal.nD Cert.RefUpIdeal.τ Cert.RefUpIdeal.sig) → Buf (Elt Ideal) ℓ) : Prop :=
  True

def Pre_RefUpIdeal_scale_not_zero [hPre_scale_not_zero : Cert.Pre_scale_not_zero.Facts] (m : (ℓ : Loc Cert.RefUpIdeal.nD Cert.RefUpIdeal.τ Cert.RefUpIdeal.sig) → Buf (Elt Ideal) ℓ) : Prop :=
  ∀ c : Dev Cert.RefUpIdeal.nD,
    (Cert.Pre_scale_not_zero.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_x_scale_not_zero [hPre_x_scale_not_zero : Cert.Pre_x_scale_not_zero.Facts] (m : (ℓ : Loc Cert.NormIdeal.nD Cert.NormIdeal.τ Cert.NormIdeal.sig) → Buf (Elt Ideal) ℓ) : Prop :=
  ∀ c : Dev Cert.NormIdeal.nD,
    (Cert.Pre_x_scale_not_zero.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))) = (fun _ => 1#1)

def Pre_RefNormIdeal (m : (ℓ : Loc Cert.RefNormIdeal.nD Cert.RefNormIdeal.τ Cert.RefNormIdeal.sig) → Buf (Elt Ideal) ℓ) : Prop :=
  True

def Pre_RefNormIdeal_x_scale_not_zero [hPre_x_scale_not_zero : Cert.Pre_x_scale_not_zero.Facts] (m : (ℓ : Loc Cert.RefNormIdeal.nD Cert.RefNormIdeal.τ Cert.RefNormIdeal.sig) → Buf (Elt Ideal) ℓ) : Prop :=
  ∀ c : Dev Cert.RefNormIdeal.nD,
    (Cert.Pre_x_scale_not_zero.fn (F := Ideal) (m ((c.tc : Thread Cert.RefNormIdeal.nD Cert.RefNormIdeal.τ).loc Cert.RefNormIdeal.main_arg0)) (m ((c.tc : Thread Cert.RefNormIdeal.nD Cert.RefNormIdeal.τ).loc Cert.RefNormIdeal.main_arg1)) (m ((c.tc : Thread Cert.RefNormIdeal.nD Cert.RefNormIdeal.τ).loc Cert.RefNormIdeal.main_arg2)) (m ((c.tc : Thread Cert.RefNormIdeal.nD Cert.RefNormIdeal.τ).loc Cert.RefNormIdeal.main_arg3)) (m ((c.tc : Thread Cert.RefNormIdeal.nD Cert.RefNormIdeal.τ).loc Cert.RefNormIdeal.main_arg4)) (m ((c.tc : Thread Cert.RefNormIdeal.nD Cert.RefNormIdeal.τ).loc Cert.RefNormIdeal.main_arg5))) = (fun _ => 1#1)

def quiescent_SharedUp [hSharedUp : Cert.SharedUp.Facts] : Prop :=
  ∀ (m : (ℓ : Loc Cert.SharedUp.nD Cert.SharedUp.τ Cert.SharedUp.sig) → Buf (Elt Bits) ℓ) (g : Dev Cert.SharedUp.nD → PrngReg), Pre_SharedUp m →
    θ_run (Cert.SharedUp.defs (F := Bits)) (onTc (τ := Cert.SharedUp.τ) (Cert.SharedUp.main (F := Bits))) ⟨m, fun _ => 0, g⟩ (fun r => (∀ c : Dev Cert.SharedUp.nD,
      r.2.mem ((c.tc : Thread Cert.SharedUp.nD Cert.SharedUp.τ).loc Cert.SharedUp.main_arg0) = m ((c.tc : Thread Cert.SharedUp.nD Cert.SharedUp.τ).loc Cert.SharedUp.main_arg0)
      ∧ r.2.mem ((c.tc : Thread Cert.SharedUp.nD Cert.SharedUp.τ).loc Cert.SharedUp.main_arg1) = m ((c.tc : Thread Cert.SharedUp.nD Cert.SharedUp.τ).loc Cert.SharedUp.main_arg1)
      ∧ r.2.mem ((c.tc : Thread Cert.SharedUp.nD Cert.SharedUp.τ).loc Cert.SharedUp.main_arg2) = m ((c.tc : Thread Cert.SharedUp.nD Cert.SharedUp.τ).loc Cert.SharedUp.main_arg2)
      ∧ r.2.mem ((c.tc : Thread Cert.SharedUp.nD Cert.SharedUp.τ).loc Cert.SharedUp.main_arg3) = m ((c.tc : Thread Cert.SharedUp.nD Cert.SharedUp.τ).loc Cert.SharedUp.main_arg3)
      ∧ r.2.mem ((c.tc : Thread Cert.SharedUp.nD Cert.SharedUp.τ).loc Cert.SharedUp.main_arg4) = m ((c.tc : Thread Cert.SharedUp.nD Cert.SharedUp.τ).loc Cert.SharedUp.main_arg4))
      ∧ r.2.sem = fun _ => 0)

def quiescent_SharedUpIdeal [hSharedUpIdeal : Cert.SharedUpIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
      ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
      ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4))
      ∧ r.2.sem = fun _ => 0)

def quiescent_SharedUpIdeal_pre_scale_not_zero [hSharedUpIdeal : Cert.SharedUpIdeal.Facts] [hPre_scale_not_zero : Cert.Pre_scale_not_zero.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal_scale_not_zero m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
      ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
      ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4))
      ∧ r.2.sem = fun _ => 0)

def quiescent_RefUpIdeal_pre_scale_not_zero [hRefUpIdeal : Cert.RefUpIdeal.Facts] [hPre_scale_not_zero : Cert.Pre_scale_not_zero.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal_scale_not_zero m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3)
      ∧ r.2.mem ((c.tc : Thread Cert.RefDownIdeal.nD Cert.RefDownIdeal.τ).loc Cert.RefDownIdeal.main_arg4) = m ((c.tc : Thread Cert.RefDownIdeal.nD Cert.RefDownIdeal.τ).loc Cert.RefDownIdeal.main_arg4)
      ∧ r.2.mem ((c.tc : Thread Cert.RefDownIdeal.nD Cert.RefDownIdeal.τ).loc Cert.RefDownIdeal.main_arg5) = m ((c.tc : Thread Cert.RefDownIdeal.nD Cert.RefDownIdeal.τ).loc Cert.RefDownIdeal.main_arg5)
      ∧ r.2.mem ((c.tc : Thread Cert.RefDownIdeal.nD Cert.RefDownIdeal.τ).loc Cert.RefDownIdeal.main_arg6) = m ((c.tc : Thread Cert.RefDownIdeal.nD Cert.RefDownIdeal.τ).loc Cert.RefDownIdeal.main_arg6)
      ∧ r.2.mem ((c.tc : Thread Cert.RefDownIdeal.nD Cert.RefDownIdeal.τ).loc Cert.RefDownIdeal.main_arg7) = m ((c.tc : Thread Cert.RefDownIdeal.nD Cert.RefDownIdeal.τ).loc Cert.RefDownIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_x_scale_not_zero [hNormIdeal : Cert.NormIdeal.Facts] [hPre_x_scale_not_zero : Cert.Pre_x_scale_not_zero.Facts] : Prop :=
  ∀ (m : (ℓ : Loc Cert.NormIdeal.nD Cert.NormIdeal.τ Cert.NormIdeal.sig) → Buf (Elt Ideal) ℓ) (g : Dev Cert.NormIdeal.nD → PrngReg), Pre_NormIdeal_x_scale_not_zero m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3)
      ∧ r.2.mem ((c.tc : Thread Cert.RefNormIdeal.nD Cert.RefNormIdeal.τ).loc Cert.RefNormIdeal.main_arg4) = m ((c.tc : Thread Cert.RefNormIdeal.nD Cert.RefNormIdeal.τ).loc Cert.RefNormIdeal.main_arg4)
      ∧ r.2.mem ((c.tc : Thread Cert.RefNormIdeal.nD Cert.RefNormIdeal.τ).loc Cert.RefNormIdeal.main_arg5) = m ((c.tc : Thread Cert.RefNormIdeal.nD Cert.RefNormIdeal.τ).loc Cert.RefNormIdeal.main_arg5))
      ∧ r.2.sem = fun _ => 0)

def quiescent_RefNormIdeal_pre_x_scale_not_zero [hRefNormIdeal : Cert.RefNormIdeal.Facts] [hPre_x_scale_not_zero : Cert.Pre_x_scale_not_zero.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal_x_scale_not_zero m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3)
      ∧ r.2.mem ((c.tc : Thread Cert.RefNormIdeal.nD Cert.RefNormIdeal.τ).loc Cert.RefNormIdeal.main_arg4) = m ((c.tc : Thread Cert.RefNormIdeal.nD Cert.RefNormIdeal.τ).loc Cert.RefNormIdeal.main_arg4)
      ∧ r.2.mem ((c.tc : Thread Cert.RefNormIdeal.nD Cert.RefNormIdeal.τ).loc Cert.RefNormIdeal.main_arg5) = m ((c.tc : Thread Cert.RefNormIdeal.nD Cert.RefNormIdeal.τ).loc Cert.RefNormIdeal.main_arg5))
      ∧ r.2.sem = fun _ => 0)

def preserves_SharedUp_SharedUpIdeal : Prop :=
  True

def algebraic_SharedUpIdeal_RefUpIdeal_pre_scale_not_zero [hSharedUpIdeal : Cert.SharedUpIdeal.Facts] [hRefUpIdeal : Cert.RefUpIdeal.Facts] [hPre_scale_not_zero : Cert.Pre_scale_not_zero.Facts] : Prop :=
  ∀ (m : (ℓ : Loc Cert.SharedUpIdeal.nD Cert.SharedUpIdeal.τ Cert.SharedUpIdeal.sig) → Buf (Elt Ideal) ℓ) (g : Dev Cert.SharedUpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_SharedUpIdeal_scale_not_zero m →
    (∀ c : Dev Cert.SharedUpIdeal.nD,
      m' ((c.tc : Thread Cert.RefUpIdeal.nD Cert.RefUpIdeal.τ).loc Cert.RefUpIdeal.main_arg0) = m ((c.tc : Thread Cert.SharedUpIdeal.nD Cert.SharedUpIdeal.τ).loc Cert.SharedUpIdeal.main_arg0)
      ∧ m' ((c.tc : Thread Cert.RefUpIdeal.nD Cert.RefUpIdeal.τ).loc Cert.RefUpIdeal.main_arg1) = m ((c.tc : Thread Cert.SharedUpIdeal.nD Cert.SharedUpIdeal.τ).loc Cert.SharedUpIdeal.main_arg1)
      ∧ m' ((c.tc : Thread Cert.RefUpIdeal.nD Cert.RefUpIdeal.τ).loc Cert.RefUpIdeal.main_arg2) = m ((c.tc : Thread Cert.SharedUpIdeal.nD Cert.SharedUpIdeal.τ).loc Cert.SharedUpIdeal.main_arg2)
      ∧ m' ((c.tc : Thread Cert.RefUpIdeal.nD Cert.RefUpIdeal.τ).loc Cert.RefUpIdeal.main_arg3) = m ((c.tc : Thread Cert.SharedUpIdeal.nD Cert.SharedUpIdeal.τ).loc Cert.SharedUpIdeal.main_arg3)
      ∧ m' ((c.tc : Thread Cert.RefUpIdeal.nD Cert.RefUpIdeal.τ).loc Cert.RefUpIdeal.main_arg4) = m ((c.tc : Thread Cert.SharedUpIdeal.nD Cert.SharedUpIdeal.τ).loc Cert.SharedUpIdeal.main_arg4)) →
    ∃ (v0 : (c : Dev Cert.SharedUpIdeal.nD) → Buf (Elt Ideal) ((c.tc : Thread Cert.SharedUpIdeal.nD Cert.SharedUpIdeal.τ).loc Cert.SharedUpIdeal.main_v0)),
      θ_run (Cert.SharedUpIdeal.defs (F := Ideal)) (onTc (τ := Cert.SharedUpIdeal.τ) (Cert.SharedUpIdeal.main (F := Ideal))) ⟨m, fun _ => 0, g⟩ (fun r => ∀ c : Dev Cert.SharedUpIdeal.nD,
          r.2.mem ((c.tc : Thread Cert.SharedUpIdeal.nD Cert.SharedUpIdeal.τ).loc Cert.SharedUpIdeal.main_v0) = v0 c
          ∧ r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
          ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
          ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2)
          ∧ r.2.mem ((c.tc : Thread Cert.SharedUpIdeal.nD Cert.SharedUpIdeal.τ).loc Cert.SharedUpIdeal.main_arg3) = m ((c.tc : Thread Cert.SharedUpIdeal.nD Cert.SharedUpIdeal.τ).loc Cert.SharedUpIdeal.main_arg3)
          ∧ r.2.mem ((c.tc : Thread Cert.SharedUpIdeal.nD Cert.SharedUpIdeal.τ).loc Cert.SharedUpIdeal.main_arg4) = m ((c.tc : Thread Cert.SharedUpIdeal.nD Cert.SharedUpIdeal.τ).loc Cert.SharedUpIdeal.main_arg4))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v3) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3)
          ∧ r.2.mem ((c.tc : Thread Cert.RefUpIdeal.nD Cert.RefUpIdeal.τ).loc Cert.RefUpIdeal.main_arg4) = m' ((c.tc : Thread Cert.RefUpIdeal.nD Cert.RefUpIdeal.τ).loc Cert.RefUpIdeal.main_arg4))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)
      ∧ m' ((c.tc : Thread Cert.RefDownIdeal.nD Cert.RefDownIdeal.τ).loc Cert.RefDownIdeal.main_arg4) = m ((c.tc : Thread Cert.DownIdeal.nD Cert.DownIdeal.τ).loc Cert.DownIdeal.main_arg4)
      ∧ m' ((c.tc : Thread Cert.RefDownIdeal.nD Cert.RefDownIdeal.τ).loc Cert.RefDownIdeal.main_arg5) = m ((c.tc : Thread Cert.DownIdeal.nD Cert.DownIdeal.τ).loc Cert.DownIdeal.main_arg5)
      ∧ m' ((c.tc : Thread Cert.RefDownIdeal.nD Cert.RefDownIdeal.τ).loc Cert.RefDownIdeal.main_arg6) = m ((c.tc : Thread Cert.DownIdeal.nD Cert.DownIdeal.τ).loc Cert.DownIdeal.main_arg6)
      ∧ m' ((c.tc : Thread Cert.RefDownIdeal.nD Cert.RefDownIdeal.τ).loc Cert.RefDownIdeal.main_arg7) = m ((c.tc : Thread Cert.DownIdeal.nD Cert.DownIdeal.τ).loc Cert.DownIdeal.main_arg7)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v3_0) = v0 c
          ∧ r.2.mem ((c.tc : Thread Cert.RefDownIdeal.nD Cert.RefDownIdeal.τ).loc Cert.RefDownIdeal.main_v3_1) = v1 c
          ∧ r.2.mem ((c.tc : Thread Cert.RefDownIdeal.nD Cert.RefDownIdeal.τ).loc Cert.RefDownIdeal.main_v3_2) = v2 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3)
          ∧ r.2.mem ((c.tc : Thread Cert.RefDownIdeal.nD Cert.RefDownIdeal.τ).loc Cert.RefDownIdeal.main_arg4) = m' ((c.tc : Thread Cert.RefDownIdeal.nD Cert.RefDownIdeal.τ).loc Cert.RefDownIdeal.main_arg4)
          ∧ r.2.mem ((c.tc : Thread Cert.RefDownIdeal.nD Cert.RefDownIdeal.τ).loc Cert.RefDownIdeal.main_arg5) = m' ((c.tc : Thread Cert.RefDownIdeal.nD Cert.RefDownIdeal.τ).loc Cert.RefDownIdeal.main_arg5)
          ∧ r.2.mem ((c.tc : Thread Cert.RefDownIdeal.nD Cert.RefDownIdeal.τ).loc Cert.RefDownIdeal.main_arg6) = m' ((c.tc : Thread Cert.RefDownIdeal.nD Cert.RefDownIdeal.τ).loc Cert.RefDownIdeal.main_arg6)
          ∧ r.2.mem ((c.tc : Thread Cert.RefDownIdeal.nD Cert.RefDownIdeal.τ).loc Cert.RefDownIdeal.main_arg7) = m' ((c.tc : Thread Cert.RefDownIdeal.nD Cert.RefDownIdeal.τ).loc Cert.RefDownIdeal.main_arg7))

def preserves_Norm_NormIdeal : Prop :=
  IdealRules.named_const.Statement Cert.NormIdeal.κ "inv_d_model" .f32 0x39124925#32 ((1 / 7168 : ℝ) : EReal)

def algebraic_NormIdeal_RefNormIdeal_pre_x_scale_not_zero [hNormIdeal : Cert.NormIdeal.Facts] [hRefNormIdeal : Cert.RefNormIdeal.Facts] [hPre_x_scale_not_zero : Cert.Pre_x_scale_not_zero.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal_x_scale_not_zero m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)
      ∧ m' ((c.tc : Thread Cert.RefNormIdeal.nD Cert.RefNormIdeal.τ).loc Cert.RefNormIdeal.main_arg2) = m ((c.tc : Thread Cert.NormIdeal.nD Cert.NormIdeal.τ).loc Cert.NormIdeal.main_arg2)
      ∧ m' ((c.tc : Thread Cert.RefNormIdeal.nD Cert.RefNormIdeal.τ).loc Cert.RefNormIdeal.main_arg3) = m ((c.tc : Thread Cert.NormIdeal.nD Cert.NormIdeal.τ).loc Cert.NormIdeal.main_arg3)
      ∧ m' ((c.tc : Thread Cert.RefNormIdeal.nD Cert.RefNormIdeal.τ).loc Cert.RefNormIdeal.main_arg4) = m ((c.tc : Thread Cert.NormIdeal.nD Cert.NormIdeal.τ).loc Cert.NormIdeal.main_arg4)
      ∧ m' ((c.tc : Thread Cert.RefNormIdeal.nD Cert.RefNormIdeal.τ).loc Cert.RefNormIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v2_0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v2) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2)
          ∧ r.2.mem ((c.tc : Thread Cert.RefNormIdeal.nD Cert.RefNormIdeal.τ).loc Cert.RefNormIdeal.main_arg3) = m' ((c.tc : Thread Cert.RefNormIdeal.nD Cert.RefNormIdeal.τ).loc Cert.RefNormIdeal.main_arg3)
          ∧ r.2.mem ((c.tc : Thread Cert.RefNormIdeal.nD Cert.RefNormIdeal.τ).loc Cert.RefNormIdeal.main_arg4) = m' ((c.tc : Thread Cert.RefNormIdeal.nD Cert.RefNormIdeal.τ).loc Cert.RefNormIdeal.main_arg4)
          ∧ r.2.mem ((c.tc : Thread Cert.RefNormIdeal.nD Cert.RefNormIdeal.τ).loc Cert.RefNormIdeal.main_arg5) = m' ((c.tc : Thread Cert.RefNormIdeal.nD Cert.RefNormIdeal.τ).loc Cert.RefNormIdeal.main_arg5))

def Claim : Prop :=
  ∃ (hSharedUp : Cert.SharedUp.Facts) (hSharedUpIdeal : Cert.SharedUpIdeal.Facts) (hRefUpIdeal : Cert.RefUpIdeal.Facts) (hDown : Cert.Down.Facts) (hDownIdeal : Cert.DownIdeal.Facts) (hRefDownIdeal : Cert.RefDownIdeal.Facts) (hNorm : Cert.Norm.Facts) (hNormIdeal : Cert.NormIdeal.Facts) (hRefNormIdeal : Cert.RefNormIdeal.Facts) (hPre_scale_not_zero : Cert.Pre_scale_not_zero.Facts) (hPre_x_scale_not_zero : Cert.Pre_x_scale_not_zero.Facts),
    quiescent_SharedUp (hSharedUp := hSharedUp)
    ∧ quiescent_SharedUpIdeal (hSharedUpIdeal := hSharedUpIdeal)
    ∧ quiescent_SharedUpIdeal_pre_scale_not_zero (hSharedUpIdeal := hSharedUpIdeal) (hPre_scale_not_zero := hPre_scale_not_zero)
    ∧ quiescent_RefUpIdeal (hRefUpIdeal := hRefUpIdeal)
    ∧ quiescent_RefUpIdeal_pre_scale_not_zero (hRefUpIdeal := hRefUpIdeal) (hPre_scale_not_zero := hPre_scale_not_zero)
    ∧ quiescent_Down (hDown := hDown)
    ∧ quiescent_DownIdeal (hDownIdeal := hDownIdeal)
    ∧ quiescent_RefDownIdeal (hRefDownIdeal := hRefDownIdeal)
    ∧ quiescent_Norm (hNorm := hNorm)
    ∧ quiescent_NormIdeal (hNormIdeal := hNormIdeal)
    ∧ quiescent_NormIdeal_pre_x_scale_not_zero (hNormIdeal := hNormIdeal) (hPre_x_scale_not_zero := hPre_x_scale_not_zero)
    ∧ quiescent_RefNormIdeal (hRefNormIdeal := hRefNormIdeal)
    ∧ quiescent_RefNormIdeal_pre_x_scale_not_zero (hRefNormIdeal := hRefNormIdeal) (hPre_x_scale_not_zero := hPre_x_scale_not_zero)
    ∧ preserves_SharedUp_SharedUpIdeal
    ∧ algebraic_SharedUpIdeal_RefUpIdeal_pre_scale_not_zero (hSharedUpIdeal := hSharedUpIdeal) (hRefUpIdeal := hRefUpIdeal) (hPre_scale_not_zero := hPre_scale_not_zero)
    ∧ preserves_Down_DownIdeal
    ∧ algebraic_DownIdeal_RefDownIdeal (hDownIdeal := hDownIdeal) (hRefDownIdeal := hRefDownIdeal)
    ∧ preserves_Norm_NormIdeal
    ∧ algebraic_NormIdeal_RefNormIdeal_pre_x_scale_not_zero (hNormIdeal := hNormIdeal) (hRefNormIdeal := hRefNormIdeal) (hPre_x_scale_not_zero := hPre_x_scale_not_zero)
-- ==== Pre_scale_not_zero.lean ====
abbrev S4096x7168 : Shape := ⟨2, ![4096, 7168]⟩
abbrev S7168x9216 : Shape := ⟨2, ![7168, 9216]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x7168 .fp8e4m3) (main_arg1 : FVec F S7168x9216 .fp8e4m3) (main_arg2 : FVec F S1 .f32) (main_arg3 : FVec F S1 .f32) (main_arg4 : FVec F S1 .f32) : IVec S_ 1 :=
  let main_v0 : FVec F S_ .f32 := shapeCast S_ main_arg4 shapeCasts_S1_S_
  let main_cst : FVec F S_ .f32 := constant S_ .f32 0x00000000#32
  let main_v1 : IVec S_ 1 := cmpf .une main_v0 main_cst
  main_v1
-- ==== Pre_x_scale_not_zero.lean ====
abbrev S4096x7168 : Shape := ⟨2, ![4096, 7168]⟩
abbrev S7168 : Shape := ⟨1, ![7168]⟩
abbrev S1 : Shape := ⟨1, ![1]⟩
abbrev S7168x1792 : Shape := ⟨2, ![7168, 1792]⟩
abbrev S1792 : Shape := ⟨1, ![1792]⟩
abbrev S_ : Shape := ⟨0, ![]⟩

class Facts : Prop where
  shapeCasts_S1_S_ : S1.ShapeCasts S_

variable [Facts]

def fn {F : FTy → Type} [FloatOps F] (main_arg0 : FVec F S4096x7168 .bf16) (main_arg1 : FVec F S7168 .f32) (main_arg2 : FVec F S1 .f32) (main_arg3 : FVec F S7168x1792 .fp8e4m3) (main_arg4 : FVec F S1792 .f32) (main_arg5 : FVec F S1 .f32) : IVec S_ 1 :=
  let main_v0 : FVec F S_ .f32 := shapeCast S_ main_arg2 shapeCasts_S1_S_
  let main_cst : FVec F S_ .f32 := constant S_ .f32 0x00000000#32
  let main_v1 : IVec S_ 1 := cmpf .une main_v0 main_cst
  main_v1
-- ==== SharedUp.lean ====
abbrev S4096x7168 : Shape := ⟨2, ![4096, 7168]⟩
abbrev S7168x9216 : Shape := ⟨2, ![7168, 9216]⟩
abbrev S1 : Shape := ⟨1, ![1]⟩
abbrev S4096x9216 : Shape := ⟨2, ![4096, 9216]⟩
abbrev S1024x7168 : Shape := ⟨2, ![1024, 7168]⟩
abbrev S7168x1024 : Shape := ⟨2, ![7168, 1024]⟩
abbrev S1024x1024 : Shape := ⟨2, ![1024, 1024]⟩
abbrev S7168x256 : Shape := ⟨2, ![7168, 256]⟩
abbrev S1024x256 : Shape := ⟨2, ![1024, 256]⟩

abbrev nBuf : Space → Nat
  | .hbm => 6
  | .vmem => 6
  | .smem => 3
  | _ => 0

abbrev bufTy : (tb : Table) → Fin (tcTables nBuf tb) → BufTy
  | .hbm, ⟨0, _⟩ => ⟨S4096x7168, .fp8e4m3⟩
  | .hbm, ⟨1, _⟩ => ⟨S7168x9216, .fp8e4m3⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S4096x9216, .fp8e4m3⟩
  | .local _ .vmem, ⟨0, _⟩ => ⟨S1024x7168, .fp8e4m3⟩
  | .local _ .vmem, ⟨1, _⟩ => ⟨S1024x7168, .fp8e4m3⟩
  | .local _ .vmem, ⟨2, _⟩ => ⟨S7168x1024, .fp8e4m3⟩
  | .local _ .vmem, ⟨3, _⟩ => ⟨S7168x1024, .fp8e4m3⟩
  | .local _ .vmem, ⟨4, _⟩ => ⟨S1024x1024, .fp8e4m3⟩
  | .local _ .vmem, ⟨5, _⟩ => ⟨S1024x1024, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 9], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S7168x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefUpIdeal.lean ====
abbrev S4096x7168 : Shape := ⟨2, ![4096, 7168]⟩
abbrev S7168x9216 : Shape := ⟨2, ![7168, 9216]⟩
abbrev S1 : Shape := ⟨1, ![1]⟩
abbrev S1x1 : Shape := ⟨2, ![1, 1]⟩
abbrev S4096x9216 : Shape := ⟨2, ![4096, 9216]⟩

abbrev nBuf : Space → Nat
  | .hbm => 9
  | .vmem => 6
  | .smem => 0
  | _ => 0

abbrev bufTy : (tb : Table) → Fin (tcTables nBuf tb) → BufTy
  | .hbm, ⟨0, _⟩ => ⟨S4096x7168, .fp8e4m3⟩
  | .hbm, ⟨1, _⟩ => ⟨S7168x9216, .fp8e4m3⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S4096x9216, .fp8e4m3⟩
  | .local _ .vmem, ⟨0, _⟩ => ⟨S4096x7168, .fp8e4m3⟩
  | .local _ .vmem, ⟨1, _⟩ => ⟨S7168x9216, .fp8e4m3⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S4096x9216, .fp8e4m3⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x9216 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S4096x7168 : Shape := ⟨2, ![4096, 7168]⟩
abbrev S4096x9216 : Shape := ⟨2, ![4096, 9216]⟩
abbrev S9216x7168 : Shape := ⟨2, ![9216, 7168]⟩
abbrev S1 : Shape := ⟨1, ![1]⟩
abbrev S4096x1792 : Shape := ⟨2, ![4096, 1792]⟩
abbrev S1792x7168 : Shape := ⟨2, ![1792, 7168]⟩
abbrev S7168 : Shape := ⟨1, ![7168]⟩
abbrev S1x7168 : Shape := ⟨2, ![1, 7168]⟩
abbrev S4096x1 : Shape := ⟨2, ![4096, 1]⟩
abbrev S1024x512 : Shape := ⟨2, ![1024, 512]⟩
abbrev S1024x9216 : Shape := ⟨2, ![1024, 9216]⟩
abbrev S9216x512 : Shape := ⟨2, ![9216, 512]⟩
abbrev S1024x1792 : Shape := ⟨2, ![1024, 1792]⟩
abbrev S1792x512 : Shape := ⟨2, ![1792, 512]⟩
abbrev S1x512 : Shape := ⟨2, ![1, 512]⟩
abbrev S1024x1 : Shape := ⟨2, ![1024, 1]⟩
abbrev S1024x128 : Shape := ⟨2, ![1024, 128]⟩
abbrev S32x1792 : Shape := ⟨2, ![32, 1792]⟩
abbrev S32 : Shape := ⟨1, ![32]⟩
abbrev S32x1 : Shape := ⟨2, ![32, 1]⟩
abbrev S32x128 : Shape := ⟨2, ![32, 128]⟩
abbrev S9216x256 : Shape := ⟨2, ![9216, 256]⟩
abbrev S1024x256 : Shape := ⟨2, ![1024, 256]⟩
abbrev S1792x256 : Shape := ⟨2, ![1792, 256]⟩
abbrev S1x128 : Shape := ⟨2, ![1, 128]⟩

abbrev nBuf : Space → Nat
  | .hbm => 12
  | .vmem => 19
  | .smem => 2
  | _ => 0

abbrev bufTy : (tb : Table) → Fin (tcTables nBuf tb) → BufTy
  | .hbm, ⟨0, _⟩ => ⟨S4096x7168, .bf16⟩
  | .hbm, ⟨1, _⟩ => ⟨S4096x9216, .fp8e4m3⟩
  | .hbm, ⟨2, _⟩ => ⟨S9216x7168, .fp8e4m3⟩
  | .hbm, ⟨3, _⟩ => ⟨S1, .f32⟩
  | .hbm, ⟨4, _⟩ => ⟨S1, .f32⟩
  | .hbm, ⟨5, _⟩ => ⟨S4096x1792, .f32⟩
  | .hbm, ⟨6, _⟩ => ⟨S1792x7168, .fp8e4m3⟩
  | .hbm, ⟨7, _⟩ => ⟨S7168, .f32⟩
  | .hbm, ⟨8, _⟩ => ⟨S1x7168, .f32⟩
  | .hbm, ⟨9, _⟩ => ⟨S4096x7168, .bf16⟩
  | .hbm, ⟨10, _⟩ => ⟨S4096x1792, .fp8e4m3⟩
  | .hbm, ⟨11, _⟩ => ⟨S4096x1, .f32⟩
  | .local _ .vmem, ⟨0, _⟩ => ⟨S1024x512, .bf16⟩
  | .local _ .vmem, ⟨1, _⟩ => ⟨S1024x512, .bf16⟩
  | .local _ .vmem, ⟨2, _⟩ => ⟨S1024x9216, .fp8e4m3⟩
  | .local _ .vmem, ⟨3, _⟩ => ⟨S1024x9216, .fp8e4m3⟩
  | .local _ .vmem, ⟨4, _⟩ => ⟨S9216x512, .fp8e4m3⟩
  | .local _ .vmem, ⟨5, _⟩ => ⟨S9216x512, .fp8e4m3⟩
  | .local _ .vmem, ⟨6, _⟩ => ⟨S1024x1792, .f32⟩
  | .local _ .vmem, ⟨7, _⟩ => ⟨S1024x1792, .f32⟩
  | .local _ .vmem, ⟨8, _⟩ => ⟨S1792x512, .fp8e4m3⟩
  | .local _ .vmem, ⟨9, _⟩ => ⟨S1792x512, .fp8e4m3⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x1792, .fp8e4m3⟩
  | .local _ .vmem, ⟨15, _⟩ => ⟨S1024x1792, .fp8e4m3⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | .local _ .smem, ⟨0, _⟩ => ⟨S1, .f32⟩
  | .local _ .smem, ⟨1, _⟩ => ⟨S1, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_50 : BitVec 32 := 0#32
  let c32_i32 : BitVec 32 := 32#32
  let v80 : BitVec 32 := Scalar.addi c0_i32_50 c32_i32
  let c1_i32 : BitVec 32 := 1#32
  ⟨c0_i32_50, v80, c1_i32⟩
def k0_mult1 (k0_t1 : Fin k0_t1_loop.trips) : BitVec 32 :=
  let c0_i32_50 : BitVec 32 := 0#32
  let c1_i32 : BitVec 32 := 1#32
  let arg14 : BitVec 32 := Scf.iv c0_i32_50 c1_i32 k0_t1
  let c32_i32_52 : BitVec 32 := 32#32
  let v81 : BitVec 32 := Scalar.muli arg14 c32_i32_52
  v81
def k0_off1 (k0_t1 : Fin k0_t1_loop.trips) : Fin 2 → Nat :=
  let c0_i32_50 : BitVec 32 := 0#32
  let c1_i32 : BitVec 32 := 1#32
  let arg14 : BitVec 32 := Scf.iv c0_i32_50 c1_i32 k0_t1
  let c32_i32_52 : BitVec 32 := 32#32
  let v81 : BitVec 32 := Scalar.muli arg14 c32_i32_52
  let v82 : BitVec 32 := v81
  let v83 : Index := Scalar.indexCast v82
  let c0_53 : Index := 0#32
  ![v83.toNat, 0]
def k0_off2 (k0_t1 : Fin k0_t1_loop.trips) : Fin 2 → Nat :=
  let c0_i32_50 : BitVec 32 := 0#32
  let c1_i32 : BitVec 32 := 1#32
  let arg14 : BitVec 32 := Scf.iv c0_i32_50 c1_i32 k0_t1
  let c32_i32_52 : BitVec 32 := 32#32
  let v81 : BitVec 32 := Scalar.muli arg14 c32_i32_52
  let v82 : BitVec 32 := v81
  let v103 : Index := Scalar.indexCast v82
  let c0_61 : Index := 0#32
  ![v103.toNat, 0]
def k0_off3 (k0_t1 : Fin k0_t1_loop.trips) : Fin 2 → Nat :=
  let c0_i32_50 : BitVec 32 := 0#32
  let c1_i32 : BitVec 32 := 1#32
  let arg14 : BitVec 32 := Scf.iv c0_i32_50 c1_i32 k0_t1
  let c32_i32_52 : BitVec 32 := 32#32
  let v81 : BitVec 32 := Scalar.muli arg14 c32_i32_52
  let v82 : BitVec 32 := v81
  let v107 : Index := Scalar.indexCast v82
  let c0_62 : Index := 0#32
  ![v107.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x9216 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S9216x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1792x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1792 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RefDownIdeal.lean ====
abbrev S4096x7168 : Shape := ⟨2, ![4096, 7168]⟩
abbrev S4096x9216 : Shape := ⟨2, ![4096, 9216]⟩
abbrev S9216x7168 : Shape := ⟨2, ![9216, 7168]⟩
abbrev S1 : Shape := ⟨1, ![1]⟩
abbrev S4096x1792 : Shape := ⟨2, ![4096, 1792]⟩
abbrev S1792x7168 : Shape := ⟨2, ![1792, 7168]⟩
abbrev S7168 : Shape := ⟨1, ![7168]⟩
abbrev S1x1 : Shape := ⟨2, ![1, 1]⟩
abbrev S1x7168 : Shape := ⟨2, ![1, 7168]⟩
abbrev S4096x1 : Shape := ⟨2, ![4096, 1]⟩
abbrev S4096 : Shape := ⟨1, ![4096]⟩

abbrev nBuf : Space → Nat
  | .hbm => 14
  | .vmem => 11
  | .smem => 0
  | _ => 0

abbrev bufTy : (tb : Table) → Fin (tcTables nBuf tb) → BufTy
  | .hbm, ⟨0, _⟩ => ⟨S4096x7168, .bf16⟩
  | .hbm, ⟨1, _⟩ => ⟨S4096x9216, .fp8e4m3⟩
  | .hbm, ⟨2, _⟩ => ⟨S9216x7168, .fp8e4m3⟩
  | .hbm, ⟨3, _⟩ => ⟨S1, .f32⟩
  | .hbm, ⟨4, _⟩ => ⟨S1, .f32⟩
  | .hbm, ⟨5, _⟩ => ⟨S4096x1792, .f32⟩
  | .hbm, ⟨6, _⟩ => ⟨S1792x7168, .fp8e4m3⟩
  | .hbm, ⟨7, _⟩ => ⟨S7168, .f32⟩
  | .hbm, ⟨8, _⟩ => ⟨S1x1, .f32⟩
  | .hbm, ⟨9, _⟩ => ⟨S1x1, .f32⟩
  | .hbm, ⟨10, _⟩ => ⟨S1x7168, .f32⟩
  | .hbm, ⟨11, _⟩ => ⟨S4096x7168, .bf16⟩
  | .hbm, ⟨12, _⟩ => ⟨S4096x1792, .fp8e4m3⟩
  | .hbm, ⟨13, _⟩ => ⟨S4096x1, .f32⟩
  | .local _ .vmem, ⟨0, _⟩ => ⟨S4096x7168, .bf16⟩
  | .local _ .vmem, ⟨1, _⟩ => ⟨S4096x9216, .fp8e4m3⟩
  | .local _ .vmem, ⟨2, _⟩ => ⟨S9216x7168, .fp8e4m3⟩
  | .local _ .vmem, ⟨3, _⟩ => ⟨S1x1, .f32⟩
  | .local _ .vmem, ⟨4, _⟩ => ⟨S1x1, .f32⟩
  | .local _ .vmem, ⟨5, _⟩ => ⟨S4096x1792, .f32⟩
  | .local _ .vmem, ⟨6, _⟩ => ⟨S1792x7168, .fp8e4m3⟩
  | .local _ .vmem, ⟨7, _⟩ => ⟨S1x7168, .f32⟩
  | .local _ .vmem, ⟨8, _⟩ => ⟨S4096x7168, .bf16⟩
  | .local _ .vmem, ⟨9, _⟩ => ⟨S4096x1792, .fp8e4m3⟩
  | .local _ .vmem, ⟨10, _⟩ => ⟨S4096x1, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1792 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Norm.lean ====
abbrev S4096x7168 : Shape := ⟨2, ![4096, 7168]⟩
abbrev S7168 : Shape := ⟨1, ![7168]⟩
abbrev S1 : Shape := ⟨1, ![1]⟩
abbrev S7168x1792 : Shape := ⟨2, ![7168, 1792]⟩
abbrev S1792 : Shape := ⟨1, ![1792]⟩
abbrev S1x7168 : Shape := ⟨2, ![1, 7168]⟩
abbrev S1x1792 : Shape := ⟨2, ![1, 1792]⟩
abbrev S4096x1792 : Shape := ⟨2, ![4096, 1792]⟩
abbrev S4096x112 : Shape := ⟨2, ![4096, 112]⟩
abbrev S28672x128 : Shape := ⟨2, ![28672, 128]⟩
abbrev S256x7168 : Shape := ⟨2, ![256, 7168]⟩
abbrev S256x1792 : Shape := ⟨2, ![256, 1792]⟩
abbrev S256x112 : Shape := ⟨2, ![256, 112]⟩
abbrev S1792x128 : Shape := ⟨2, ![1792, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩

abbrev nBuf : Space → Nat
  | .hbm => 12
  | .vmem => 13
  | .smem => 2
  | _ => 0

abbrev bufTy : (tb : Table) → Fin (tcTables nBuf tb) → BufTy
  | .hbm, ⟨0, _⟩ => ⟨S4096x7168, .bf16⟩
  | .hbm, ⟨1, _⟩ => ⟨S7168, .f32⟩
  | .hbm, ⟨2, _⟩ => ⟨S1, .f32⟩
  | .hbm, ⟨3, _⟩ => ⟨S7168x1792, .fp8e4m3⟩
  | .hbm, ⟨4, _⟩ => ⟨S1792, .f32⟩
  | .hbm, ⟨5, _⟩ => ⟨S1, .f32⟩
  | .hbm, ⟨6, _⟩ => ⟨S1x7168, .f32⟩
  | .hbm, ⟨7, _⟩ => ⟨S1x1792, .f32⟩
  | .hbm, ⟨8, _⟩ => ⟨S4096x7168, .fp8e4m3⟩
  | .hbm, ⟨9, _⟩ => ⟨S4096x1792, .i8⟩
  | .hbm, ⟨10, _⟩ => ⟨S4096x112, .fp8e4m3⟩
  | .hbm, ⟨11, _⟩ => ⟨S28672x128, .i32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S7168x1792, .fp8e4m3⟩
  | .local _ .vmem, ⟨4, _⟩ => ⟨S1x1792, .f32⟩
  | .local _ .vmem, ⟨5, _⟩ => ⟨S256x7168, .fp8e4m3⟩
  | .local _ .vmem, ⟨6, _⟩ => ⟨S256x7168, .fp8e4m3⟩
  | .local _ .vmem, ⟨7, _⟩ => ⟨S256x1792, .i8⟩
  | .local _ .vmem, ⟨8, _⟩ => ⟨S256x1792, .i8⟩
  | .local _ .vmem, ⟨9, _⟩ => ⟨S256x112, .fp8e4m3⟩
  | .local _ .vmem, ⟨10, _⟩ => ⟨S256x112, .fp8e4m3⟩
  | .local _ .vmem, ⟨11, _⟩ => ⟨S1792x128, .i32⟩
  | .local _ .vmem, ⟨12, _⟩ => ⟨S1792x128, .i32⟩
  | .local _ .smem, ⟨0, _⟩ => ⟨S1, .f32⟩
  | .local _ .smem, ⟨1, _⟩ => ⟨S1, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  v3
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v6 : Index := Scalar.indexCast v4
  let c0_2 : Index := 0#32
  ![v6.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v11 : Index := Scalar.indexCast v4
  let c128 : Index := 128#32
  ![v11.toNat, 128]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v16 : Index := Scalar.indexCast v4
  let c256 : Index := 256#32
  ![v16.toNat, 256]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v21 : Index := Scalar.indexCast v4
  let c384 : Index := 384#32
  ![v21.toNat, 384]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v26 : Index := Scalar.indexCast v4
  let c512 : Index := 512#32
  ![v26.toNat, 512]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v31 : Index := Scalar.indexCast v4
  let c640 : Index := 640#32
  ![v31.toNat, 640]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v36 : Index := Scalar.indexCast v4
  let c768 : Index := 768#32
  ![v36.toNat, 768]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v41 : Index := Scalar.indexCast v4
  let c896 : Index := 896#32
  ![v41.toNat, 896]
def k0_off9 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v46 : Index := Scalar.indexCast v4
  let c1024 : Index := 1024#32
  ![v46.toNat, 1024]
def k0_off10 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v51 : Index := Scalar.indexCast v4
  let c1152 : Index := 1152#32
  ![v51.toNat, 1152]
def k0_off11 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v56 : Index := Scalar.indexCast v4
  let c1280 : Index := 1280#32
  ![v56.toNat, 1280]
def k0_off12 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v61 : Index := Scalar.indexCast v4
  let c1408 : Index := 1408#32
  ![v61.toNat, 1408]
def k0_off13 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v66 : Index := Scalar.indexCast v4
  let c1536 : Index := 1536#32
  ![v66.toNat, 1536]
def k0_off14 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v71 : Index := Scalar.indexCast v4
  let c1664 : Index := 1664#32
  ![v71.toNat, 1664]
def k0_off15 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v76 : Index := Scalar.indexCast v4
  let c1792 : Index := 1792#32
  ![v76.toNat, 1792]
def k0_off16 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v81 : Index := Scalar.indexCast v4
  let c1920 : Index := 1920#32
  ![v81.toNat, 1920]
def k0_off17 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v86 : Index := Scalar.indexCast v4
  let c2048 : Index := 2048#32
  ![v86.toNat, 2048]
def k0_off18 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v91 : Index := Scalar.indexCast v4
  let c2176 : Index := 2176#32
  ![v91.toNat, 2176]
def k0_off19 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v96 : Index := Scalar.indexCast v4
  let c2304 : Index := 2304#32
  ![v96.toNat, 2304]
def k0_off20 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v101 : Index := Scalar.indexCast v4
  let c2432 : Index := 2432#32
  ![v101.toNat, 2432]
def k0_off21 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v106 : Index := Scalar.indexCast v4
  let c2560 : Index := 2560#32
  ![v106.toNat, 2560]
def k0_off22 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v111 : Index := Scalar.indexCast v4
  let c2688 : Index := 2688#32
  ![v111.toNat, 2688]
def k0_off23 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v116 : Index := Scalar.indexCast v4
  let c2816 : Index := 2816#32
  ![v116.toNat, 2816]
def k0_off24 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v121 : Index := Scalar.indexCast v4
  let c2944 : Index := 2944#32
  ![v121.toNat, 2944]
def k0_off25 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v126 : Index := Scalar.indexCast v4
  let c3072 : Index := 3072#32
  ![v126.toNat, 3072]
def k0_off26 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v131 : Index := Scalar.indexCast v4
  let c3200 : Index := 3200#32
  ![v131.toNat, 3200]
def k0_off27 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v136 : Index := Scalar.indexCast v4
  let c3328 : Index := 3328#32
  ![v136.toNat, 3328]
def k0_off28 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v141 : Index := Scalar.indexCast v4
  let c3456 : Index := 3456#32
  ![v141.toNat, 3456]
def k0_off29 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v146 : Index := Scalar.indexCast v4
  let c3584 : Index := 3584#32
  ![v146.toNat, 3584]
def k0_off30 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v151 : Index := Scalar.indexCast v4
  let c3712 : Index := 3712#32
  ![v151.toNat, 3712]
def k0_off31 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v156 : Index := Scalar.indexCast v4
  let c3840 : Index := 3840#32
  ![v156.toNat, 3840]
def k0_off32 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v161 : Index := Scalar.indexCast v4
  let c3968 : Index := 3968#32
  ![v161.toNat, 3968]
def k0_off33 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v166 : Index := Scalar.indexCast v4
  let c4096 : Index := 4096#32
  ![v166.toNat, 4096]
def k0_off34 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v171 : Index := Scalar.indexCast v4
  let c4224 : Index := 4224#32
  ![v171.toNat, 4224]
def k0_off35 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v176 : Index := Scalar.indexCast v4
  let c4352 : Index := 4352#32
  ![v176.toNat, 4352]
def k0_off36 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v181 : Index := Scalar.indexCast v4
  let c4480 : Index := 4480#32
  ![v181.toNat, 4480]
def k0_off37 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v186 : Index := Scalar.indexCast v4
  let c4608 : Index := 4608#32
  ![v186.toNat, 4608]
def k0_off38 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v191 : Index := Scalar.indexCast v4
  let c4736 : Index := 4736#32
  ![v191.toNat, 4736]
def k0_off39 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v196 : Index := Scalar.indexCast v4
  let c4864 : Index := 4864#32
  ![v196.toNat, 4864]
def k0_off40 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v201 : Index := Scalar.indexCast v4
  let c4992 : Index := 4992#32
  ![v201.toNat, 4992]
def k0_off41 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v206 : Index := Scalar.indexCast v4
  let c5120 : Index := 5120#32
  ![v206.toNat, 5120]
def k0_off42 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v211 : Index := Scalar.indexCast v4
  let c5248 : Index := 5248#32
  ![v211.toNat, 5248]
def k0_off43 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v216 : Index := Scalar.indexCast v4
  let c5376 : Index := 5376#32
  ![v216.toNat, 5376]
def k0_off44 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v221 : Index := Scalar.indexCast v4
  let c5504 : Index := 5504#32
  ![v221.toNat, 5504]
def k0_off45 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v226 : Index := Scalar.indexCast v4
  let c5632 : Index := 5632#32
  ![v226.toNat, 5632]
def k0_off46 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v231 : Index := Scalar.indexCast v4
  let c5760 : Index := 5760#32
  ![v231.toNat, 5760]
def k0_off47 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v236 : Index := Scalar.indexCast v4
  let c5888 : Index := 5888#32
  ![v236.toNat, 5888]
def k0_off48 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v241 : Index := Scalar.indexCast v4
  let c6016 : Index := 6016#32
  ![v241.toNat, 6016]
def k0_off49 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v246 : Index := Scalar.indexCast v4
  let c6144 : Index := 6144#32
  ![v246.toNat, 6144]
def k0_off50 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v251 : Index := Scalar.indexCast v4
  let c6272 : Index := 6272#32
  ![v251.toNat, 6272]
def k0_off51 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v256 : Index := Scalar.indexCast v4
  let c6400 : Index := 6400#32
  ![v256.toNat, 6400]
def k0_off52 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v261 : Index := Scalar.indexCast v4
  let c6528 : Index := 6528#32
  ![v261.toNat, 6528]
def k0_off53 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v266 : Index := Scalar.indexCast v4
  let c6656 : Index := 6656#32
  ![v266.toNat, 6656]
def k0_off54 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v271 : Index := Scalar.indexCast v4
  let c6784 : Index := 6784#32
  ![v271.toNat, 6784]
def k0_off55 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v276 : Index := Scalar.indexCast v4
  let c6912 : Index := 6912#32
  ![v276.toNat, 6912]
def k0_off56 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v3 : BitVec 32 := Scalar.muli arg11 c32_i32
  let v4 : BitVec 32 := v3
  let v281 : Index := Scalar.indexCast v4
  let c7040 : Index := 7040#32
  ![v281.toNat, 7040]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7168x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x112 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1792x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NormIdeal.lean ====
variable {F : FTy → Type} [FloatOps F] [Named F]
def κ : String → Option EReal := fun
  | "inv_d_model" => some ((1 / 7168 : ℝ) : EReal)
  | _ => none
-- ==== RefNormIdeal.lean ====
abbrev S4096x7168 : Shape := ⟨2, ![4096, 7168]⟩
abbrev S7168 : Shape := ⟨1, ![7168]⟩
abbrev S1 : Shape := ⟨1, ![1]⟩
abbrev S7168x1792 : Shape := ⟨2, ![7168, 1792]⟩
abbrev S1792 : Shape := ⟨1, ![1792]⟩
abbrev S1x7168 : Shape := ⟨2, ![1, 7168]⟩
abbrev S1x1 : Shape := ⟨2, ![1, 1]⟩
abbrev S4096 : Shape := ⟨1, ![4096]⟩
abbrev S4096x1 : Shape := ⟨2, ![4096, 1]⟩

abbrev nBuf : Space → Nat
  | .hbm => 9
  | .vmem => 4
  | .smem => 0
  | _ => 0

abbrev bufTy : (tb : Table) → Fin (tcTables nBuf tb) → BufTy
  | .hbm, ⟨0, _⟩ => ⟨S4096x7168, .bf16⟩
  | .hbm, ⟨1, _⟩ => ⟨S7168, .f32⟩
  | .hbm, ⟨2, _⟩ => ⟨S1, .f32⟩
  | .hbm, ⟨3, _⟩ => ⟨S7168x1792, .fp8e4m3⟩
  | .hbm, ⟨4, _⟩ => ⟨S1792, .f32⟩
  | .hbm, ⟨5, _⟩ => ⟨S1, .f32⟩
  | .hbm, ⟨6, _⟩ => ⟨S1x7168, .f32⟩
  | .hbm, ⟨7, _⟩ => ⟨S1x1, .f32⟩
  | .hbm, ⟨8, _⟩ => ⟨S4096x7168, .fp8e4m3⟩
  | .local _ .vmem, ⟨0, _⟩ => ⟨S4096x7168, .bf16⟩
  | .local _ .vmem, ⟨1, _⟩ => ⟨S1x7168, .f32⟩
  | .local _ .vmem, ⟨2, _⟩ => ⟨S1x1, .f32⟩
  | .local _ .vmem, ⟨3, _⟩ => ⟨S4096x7168, .fp8e4m3⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.UpValue.lean ====
module

public import proofs.«01_k».proof.Proof.Gen.SharedUpIdeal.Value
public import proofs.«01_k».proof.Proof.Gen.RefUpIdeal.Value
public import proofs.«01_k».proof.Defs
public import Idealize.ShloMosaic.Lib.MatmulPlain
public import Idealize.ShloMosaic.Lib.ValueIdx
public import Idealize.ShloMosaic.Lib.IdealHost
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.UpKernel

open Cert.SharedUpIdeal Cert.SharedUpIdeal.Gen

/-- The two ways to write the offset zero. -/
theorem zero2 : (![0, 0] : Fin 2 → Nat) = fun _ => 0 := funext fun a => by fin_cases a <;> rfl

/-- The clip to the range of the 8-bit format. -/
def clip8 (v : EReal) : EReal :=
  min (Ideal.ofBits .f32 0x43E00000#32) (max (Ideal.ofBits .f32 0xC3E00000#32) v)

/-- The rectified scaled product. -/
def act (p s : EReal) : EReal := max (p * s) (Ideal.ofBits .f32 0x00000000#32)

/-- The zero accumulator plus the product of row `r` of `x` and column `q` of `w`. -/
def dot {M K N : Nat} (x : (⟨2, ![M, K]⟩ : Shape).Idx → EReal) (w : (⟨2, ![K, N]⟩ : Shape).Idx → EReal) (r : Fin M) (q : Fin N) : EReal :=
  Ideal.ofBits .f32 0x00000000#32 + ∑ k : Fin K, x (ix2 r k) * w (ix2 k q)

/-- The dot product reads the right factor at one column only. -/
theorem dot_congr {M K N M' N' : Nat} (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal) (r : Fin M) (q : Fin N) (r' : Fin M') (q' : Fin N')
    (hx : ∀ k, x (ix2 r k) = x' (ix2 r' k)) (hw : ∀ k, w (ix2 k q) = w' (ix2 k q')) : dot x w r q = dot x' w' r' q' := by
  unfold dot
  exact congrArg _ (Finset.sum_congr rfl fun k _ => by rw [hx k, hw k])

/-- One column strip's codes, element by element. -/
theorem pay6_apply (v2 v4 : EReal) (X : FVec Ideal S1024x7168 .fp8e4m3) (W : FVec Ideal S7168x256 .fp8e4m3) (r : Fin 1024) (q : Fin 256) :
    k0_pay6 (F := Ideal) v2 v4 X W (ix2 r q) = clip8 (act (dot X W r q) v2 * act (dot X W r q) v2 * v4) := by
  have h : FloatOps.matmul (DotDims.plain 1024 7168 256) none X W (constant S1024x256 .f32 0x00000000#32) (ix2 r q) = dot X W r q :=
    Ideal.matmul_plain_apply (M := 1024) (K := 7168) (N := 256) none X W (constant S1024x256 .f32 0x00000000#32) r q
  rw [← h]
  rfl

/-- The first strip's payload is of the common form. -/
theorem pay3_eq (v0 v1 v3 X W) : k0_pay3 (F := Ideal) v0 v1 v3 X W = k0_pay6 (k0_pay1 v0 v1) (k0_pay2 v3) X W := rfl
/-- The second strip's payload is of the common form. -/
theorem pay5_eq (v0 v1 v3 X W) : k0_pay5 (k0_pay4 (F := Ideal) v0 v1 v3 X W) = k0_pay6 (k0_pay1 v0 v1) (k0_pay2 v3) X W := rfl
/-- The remaining strips' payload is of the common form. -/
theorem pay7_eq (v2 v4 X W) : k0_pay7 (F := Ideal) v2 v4 X W = k0_pay6 v2 v4 X W := rfl

/-- One code of a block: the product scaled, rectified, squared, times the reciprocal of the scale, clipped. -/
def blockCode (sx ws sh : EReal) (x : S1024x7168.Idx → EReal) (w : S7168x1024.Idx → EReal) (y : S1024x1024.Idx) : EReal :=
  clip8 (act (dot x w (y 0) (y 1)) (sx * ws) * act (dot x w (y 0) (y 1)) (sx * ws) * Ideal.div (Ideal.ofBits .f32 0x3F800000#32) sh)

/-- The only index of a one-element array. -/
abbrev i0 : S1.Idx := ix1 (0 : Fin 1)

/-- A one-element array has one index. -/
theorem idx1_eq (i : S1.Idx) : i = i0 := by
  funext a; apply Fin.ext
  match a with
  | ⟨0, _⟩ => have : (i 0).val < 1 := (i 0).isLt
              show (i 0).val = 0; omega

/-- The store of the 256 columns from column `o` on. -/
def piece (x0 x1 x2 : Vec Ideal S1 .f32) (x3 : Vec Ideal S1024x7168 .fp8e4m3) (x4 : Vec Ideal S7168x1024 .fp8e4m3) (o : Nat)
    (ho : ∀ a : Fin 2, ![0, o] a + ![1024, 256] a ≤ S1024x1024.size a) (hw : ∀ a : Fin 2, ![0, o] a + ![7168, 256] a ≤ S7168x1024.size a) :
    View.Piece (Elt Ideal) S1024x1024 .fp8e4m3 :=
  ⟨Rect.unit (s := S1024x1024) ![0, o] ![1024, 256] ho,
    k0_pay6 (F := Ideal) (k0_pay1 (x0 i0) (x1 i0)) (k0_pay2 (x2 i0)) x3 (View.ld x4 (Rect.unit (s := S7168x1024) ![0, o] ![7168, 256] hw))⟩

/-- Such a store holds its columns of the block. -/
theorem piece_eq (x0 x1 x2 : Vec Ideal S1 .f32) (x3 : Vec Ideal S1024x7168 .fp8e4m3) (x4 : Vec Ideal S7168x1024 .fp8e4m3) (o : Nat)
    (ho : ∀ a : Fin 2, ![0, o] a + ![1024, 256] a ≤ S1024x1024.size a) (hw : ∀ a : Fin 2, ![0, o] a + ![7168, 256] a ≤ S7168x1024.size a) (z : S1024x256.Idx) :
    (piece x0 x1 x2 x3 x4 o ho hw).2 z = blockCode (x0 i0) (x1 i0) (x2 i0) x3 x4 ((piece x0 x1 x2 x3 x4 o ho hw).1.emb z) := by
  obtain ⟨r, q, rfl⟩ : ∃ (r : Fin 1024) (q : Fin 256), z = ix2 r q := ⟨z 0, z 1, eq_ix2 z⟩
  refine (pay6_apply _ _ _ _ r q).trans ?_
  have hd : dot x3 (View.ld x4 (Rect.unit (s := S7168x1024) ![0, o] ![7168, 256] hw)) r q
      = dot x3 x4 ((Rect.unit (s := S1024x1024) ![0, o] ![1024, 256] ho).emb (ix2 r q) 0) ((Rect.unit (s := S1024x1024) ![0, o] ![1024, 256] ho).emb (ix2 r q) 1) := by
    refine dot_congr _ _ _ _ _ _ _ _ (fun k => congrArg x3 ?_) (fun k => congrArg x4 ?_)
    · exact Shape.idx_ext₂ (show r.val = 0 + 1 * r.val by omega) rfl
    · exact Shape.idx_ext₂ (show 0 + 1 * k.val = k.val by omega) (show o + 1 * q.val = o + 1 * q.val by omega)
  unfold blockCode
  rw [hd]
  rfl

/-- The four stores, with the scales read at any index of their one-element arrays. -/
theorem pieces_at (x0 x1 x2 : Vec Ideal S1 .f32) (x3 : Vec Ideal S1024x7168 .fp8e4m3) (x4 : Vec Ideal S7168x1024 .fp8e4m3) (j0 j1 j2 : S1.Idx) :
    ([⟨Rect.unit (s := S1024x1024) ![0, 768] ![1024, 256] inb_S1024x1024_S1024x256_0_768,
        k0_pay6 (F := Ideal) (k0_pay1 (x0 j0) (x1 j1)) (k0_pay2 (x2 j2)) x3 (View.ld x4 (Rect.unit (s := S7168x1024) ![0, 768] ![7168, 256] inb_S7168x1024_S7168x256_0_768))⟩,
      ⟨Rect.unit (s := S1024x1024) ![0, 512] ![1024, 256] inb_S1024x1024_S1024x256_0_512,
        k0_pay6 (F := Ideal) (k0_pay1 (x0 j0) (x1 j1)) (k0_pay2 (x2 j2)) x3 (View.ld x4 (Rect.unit (s := S7168x1024) ![0, 512] ![7168, 256] inb_S7168x1024_S7168x256_0_512))⟩,
      ⟨Rect.unit (s := S1024x1024) ![0, 256] ![1024, 256] inb_S1024x1024_S1024x256_0_256,
        k0_pay6 (F := Ideal) (k0_pay1 (x0 j0) (x1 j1)) (k0_pay2 (x2 j2)) x3 (View.ld x4 (Rect.unit (s := S7168x1024) ![0, 256] ![7168, 256] inb_S7168x1024_S7168x256_0_256))⟩,
      ⟨Rect.unit (s := S1024x1024) ![0, 0] ![1024, 256] inb_S1024x1024_S1024x256_0_0,
        k0_pay6 (F := Ideal) (k0_pay1 (x0 j0) (x1 j1)) (k0_pay2 (x2 j2)) x3 (View.ld x4 (Rect.unit (s := S7168x1024) ![0, 0] ![7168, 256] inb_S7168x1024_S7168x256_0_0))⟩] :
        List (View.Piece (Elt Ideal) S1024x1024 .fp8e4m3))
      = [piece x0 x1 x2 x3 x4 768 inb_S1024x1024_S1024x256_0_768 inb_S7168x1024_S7168x256_0_768,
         piece x0 x1 x2 x3 x4 512 inb_S1024x1024_S1024x256_0_512 inb_S7168x1024_S7168x256_0_512,
         piece x0 x1 x2 x3 x4 256 inb_S1024x1024_S1024x256_0_256 inb_S7168x1024_S7168x256_0_256,
         piece x0 x1 x2 x3 x4 0 inb_S1024x1024_S1024x256_0_0 inb_S7168x1024_S7168x256_0_0] := by
  rw [idx1_eq j0, idx1_eq j1, idx1_eq j2]
  rfl

/-- The body's stores, last first. -/
theorem pieces_eq (c : Dev nD) (i : grid0.Coords) (a2 : Memref sig .tc .smem S1 .f32) (h2 : a2.IsWhole) (a3 : Memref sig .tc .smem S1 .f32) (h3 : a3.IsWhole) (a4 : Memref sig .tc .smem S1 .f32) (h4 : a4.IsWhole) (a5 : Memref sig .tc .vmem S1024x7168 .fp8e4m3) (h5 : a5.IsWhole) (a6 : Memref sig .tc .vmem S7168x1024 .fp8e4m3) (h6 : a6.IsWhole) (a7 : Memref sig .tc .vmem S1024x1024 .fp8e4m3) (h7 : a7.IsWhole)
    (x0 x1 x2 : Vec Ideal S1 .f32) (x3 : Vec Ideal S1024x7168 .fp8e4m3) (x4 : Vec Ideal S7168x1024 .fp8e4m3) :
    (kernelRun0_A (F := Ideal) c i a2 h2 a3 h3 a4 h4 a5 h5 a6 h6 a7 h7 x0 x1 x2 x3 x4).1
      = [piece x0 x1 x2 x3 x4 768 inb_S1024x1024_S1024x256_0_768 inb_S7168x1024_S7168x256_0_768,
         piece x0 x1 x2 x3 x4 512 inb_S1024x1024_S1024x256_0_512 inb_S7168x1024_S7168x256_0_512,
         piece x0 x1 x2 x3 x4 256 inb_S1024x1024_S1024x256_0_256 inb_S7168x1024_S7168x256_0_256,
         piece x0 x1 x2 x3 x4 0 inb_S1024x1024_S1024x256_0_0 inb_S7168x1024_S7168x256_0_0] := by
  unfold kernelRun0_A
  dsimp only
  sl_unfold_words
  simp only [View.readAt_eq_ld, h2.read_unread, h3.read_unread, h4.read_unread, h5.read_unread, h6.read_unread, pay3_eq, pay5_eq, pay7_eq, View.ld_unit_zero (S := S1024x7168) zero2]
  exact pieces_at x0 x1 x2 x3 x4 _ _ _

/-- What a point leaves in its block of the codes, element by element. -/
theorem out_eq (c : Dev nD) (i : grid0.Coords) (a2 : Memref sig .tc .smem S1 .f32) (h2 : a2.IsWhole) (a3 : Memref sig .tc .smem S1 .f32) (h3 : a3.IsWhole) (a4 : Memref sig .tc .smem S1 .f32) (h4 : a4.IsWhole) (a5 : Memref sig .tc .vmem S1024x7168 .fp8e4m3) (h5 : a5.IsWhole) (a6 : Memref sig .tc .vmem S7168x1024 .fp8e4m3) (h6 : a6.IsWhole) (a7 : Memref sig .tc .vmem S1024x1024 .fp8e4m3) (h7 : a7.IsWhole)
    (x0 x1 x2 : Vec Ideal S1 .f32) (x3 : Vec Ideal S1024x7168 .fp8e4m3) (x4 : Vec Ideal S7168x1024 .fp8e4m3) (y : S1024x1024.Idx) :
    out0_A_5 (F := Ideal) c i a2 h2 a3 h3 a4 h4 a5 h5 a6 h6 a7 h7 x0 x1 x2 x3 x4 y = blockCode (x0 i0) (x1 i0) (x2 i0) x3 x4 y := by
  have hc := cover0_A_5 (F := Ideal) c i a2 h2 a3 h3 a4 h4 a5 h5 a6 h6 a7 h7 x0 x1 x2 x3 x4
  unfold out0_A_5
  rw [View.read_writes_eq_canon _ _ _ hc]
  rw [pieces_eq] at hc ⊢
  refine View.canon_apply_of_pieces _ _ ?_ y (hc y)
  simp only [List.forall_mem_cons]
  exact ⟨piece_eq _ _ _ _ _ _ _ _, piece_eq _ _ _ _ _ _ _ _, piece_eq _ _ _ _ _ _ _ _, piece_eq _ _ _ _ _ _ _ _, fun p hp => absurd hp List.not_mem_nil⟩

/-- The codes of whole arrays: each is the rectified scaled product, squared, times the reciprocal of the scale, clipped. -/
def codesOf (x : S4096x7168.Idx → EReal) (w : S7168x9216.Idx → EReal) (sx ws sh : EReal) (i : S4096x9216.Idx) : EReal :=
  clip8 (act (dot x w (i 0) (i 1)) (sx * ws) * act (dot x w (i 0) (i 1)) (sx * ws) * Ideal.div (Ideal.ofBits .f32 0x3F800000#32) sh)

variable (m : (ℓ : Loc nD τ sig) → Buf (Elt Ideal) ℓ) (ρ : Dev nD → PrngReg)

/-- What the result array is shown to hold: one code per row of the first array and column of the second. -/
abbrev codes (c : Dev nD) : Buf (Elt Ideal) ((c : Thread nD τ).loc main_v0) :=
  codesOf (m ((c : Thread nD τ).loc main_arg0)) (m ((c : Thread nD τ).loc main_arg1)) (m ((c : Thread nD τ).loc main_arg2) i0)
    (m ((c : Thread nD τ).loc main_arg3) i0) (m ((c : Thread nD τ).loc main_arg4) i0)

/-- How the blocks move: the rows with the first coordinate of the output's block, the columns with the second. -/
theorem idx_facts : ∀ t : Fin cfg0.N, win0_3.index t 0 = win0_5.index t 0 ∧ win0_3.index t 1 = 0 ∧ win0_4.index t 0 = 0 ∧ win0_4.index t 1 = win0_5.index t 1 :=
  (by decide +kernel : ∀ t : Fin grid0.N, win0_3.index t 0 = win0_5.index t 0 ∧ win0_3.index t 1 = 0 ∧ win0_4.index t 0 = 0 ∧ win0_4.index t 1 = win0_5.index t 1)

/-- Every block of the result belongs to some point. -/
theorem idx_onto : ∀ (a : Fin 4) (b : Fin 9), ∃ t : Fin cfg0.N, win0_5.index t 0 = a.val ∧ win0_5.index t 1 = b.val :=
  (by decide +kernel : ∀ (a : Fin 4) (b : Fin 9), ∃ t : Fin grid0.N, win0_5.index t 0 = a.val ∧ win0_5.index t 1 = b.val)

/-- What a point writes back is its block of the whole array. -/
theorem flushed_eq (c : Dev nD) (t : Fin cfg0.N) :
    (dats m 0 c).flushed 5 t = ((cfg0.win 5).blk t).view.read (Elt Ideal) (codes m c) := by
  rw [Cert.SharedUpIdeal.Value.flushed5_A]
  funext y
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) y).trans ?_
  obtain ⟨f0, f1, f2, f3⟩ := idx_facts t
  have e0 : iblk m c 0 t i0 = m ((c : Thread nD τ).loc main_arg2) i0 := congrArg (m ((c : Thread nD τ).loc main_arg2)) (idx1_eq _)
  have e1 : iblk m c 1 t i0 = m ((c : Thread nD τ).loc main_arg3) i0 := congrArg (m ((c : Thread nD τ).loc main_arg3)) (idx1_eq _)
  have e2 : iblk m c 2 t i0 = m ((c : Thread nD τ).loc main_arg4) i0 := congrArg (m ((c : Thread nD τ).loc main_arg4)) (idx1_eq _)
  have hd : dot (iblk m c 3 t) (iblk m c 4 t) (y 0) (y 1)
      = dot (m ((c : Thread nD τ).loc main_arg0)) (m ((c : Thread nD τ).loc main_arg1)) (((cfg0.win 5).blk t).view.emb y 0) (((cfg0.win 5).blk t).view.emb y 1) := by
    refine dot_congr _ _ _ _ _ _ _ _ (fun k => congrArg (m ((c : Thread nD τ).loc main_arg0)) ?_) (fun k => congrArg (m ((c : Thread nD τ).loc main_arg1)) ?_)
    · refine Shape.idx_ext₂ ?_ ?_
      · show win0_3.index t 0 * 1024 + 1 * (y 0).val = win0_5.index t 0 * 1024 + 1 * (y 0).val
        rw [f0]
      · show win0_3.index t 1 * 7168 + 1 * k.val = k.val
        rw [f1]; omega
    · refine Shape.idx_ext₂ ?_ ?_
      · show win0_4.index t 0 * 7168 + 1 * k.val = k.val
        rw [f2]; omega
      · show win0_4.index t 1 * 1024 + 1 * (y 1).val = win0_5.index t 1 * 1024 + 1 * (y 1).val
        rw [f3]
  unfold blockCode
  rw [hd, e0, e1, e2]
  rfl

/-- Every element of the array is written back at some point. -/
theorem cover (i : S4096x9216.Idx) : ∃ t : Fin cfg0.N, (cfg0.win 5).flush t = true ∧ i ∈ ((cfg0.win 5).blk t).view.set := by
  have h0 : (i 0).val < 4096 := (i 0).isLt
  have h1 : (i 1).val < 9216 := (i 1).isLt
  obtain ⟨t, ht0, ht1⟩ := idx_onto ⟨(i 0).val / 1024, by omega⟩ ⟨(i 1).val / 1024, by omega⟩
  refine ⟨t, flush0_5 t, ?_⟩
  show i ∈ ((View.whole main_v0).slice (win0_5.rect t)).set
  rw [View.set_slice_whole, Rect.mem_set_unit]
  intro a
  match a with
  | ⟨0, _⟩ => show win0_5.index t 0 * 1024 ≤ (i 0).val ∧ (i 0).val < win0_5.index t 0 * 1024 + 1024
              rw [ht0]; dsimp only; omega
  | ⟨1, _⟩ => show win0_5.index t 1 * 1024 ≤ (i 1).val ∧ (i 1).val < win0_5.index t 1 * 1024 + 1024
              rw [ht1]; dsimp only; omega

/-- The result array after the run. -/
theorem final (c : Dev nD) : (dats m 0 c).arrAt 5 cfg0.N = codes m c :=
  (dats m 0 c).arrAt_eq_of_cover 5 (codes m c) (fun t _ => flushed_eq m c t) cover

end Cert.UpKernel

namespace Cert.UpRef

open Cert.RefUpIdeal Cert.RefUpIdeal.Gen
open Cert.UpKernel (zero2 clip8 act dot dot_congr i0 idx1_eq)

variable (m : (ℓ : Loc nD τ sig) → Buf (Elt Ideal) ℓ) (ρ : Dev nD → PrngReg)

/-- The reference's codes: the squared rectified product divided by the scale, clipped. -/
def codesOf (x : S4096x7168.Idx → EReal) (w : S7168x9216.Idx → EReal) (sx ws sh : EReal) (i : S4096x9216.Idx) : EReal :=
  clip8 (Ideal.div (act (dot x w (i 0) (i 1)) (sx * ws) * act (dot x w (i 0) (i 1)) (sx * ws)) sh)

/-- What the reference's result array is shown to hold. -/
abbrev codes (c : Dev nD) : Buf (Elt Ideal) ((c : Thread nD τ).loc main_v3) :=
  codesOf (m ((c : Thread nD τ).loc main_arg0)) (m ((c : Thread nD τ).loc main_arg1)) (m ((c : Thread nD τ).loc main_arg2) i0)
    (m ((c : Thread nD τ).loc main_arg3) i0) (m ((c : Thread nD τ).loc main_arg4) i0)

/-- The reference's payload, element by element. -/
theorem pay_apply (X : FVec Ideal S4096x7168 .fp8e4m3) (W : FVec Ideal S7168x9216 .fp8e4m3) (a b d : FVec Ideal S1x1 .f32) (r : Fin 4096) (q : Fin 9216) :
    k0_pay1 (F := Ideal) X W a b d (ix2 r q)
      = clip8 (Ideal.div (act (dot X W r q) (a (ix2 0 0) * b (ix2 0 0)) * act (dot X W r q) (a (ix2 0 0) * b (ix2 0 0))) (d (ix2 0 0))) := by
  have h : FloatOps.matmul (DotDims.plain 4096 7168 9216) none X W (constant S4096x9216 .f32 0x00000000#32) (ix2 r q) = dot X W r q :=
    Ideal.matmul_plain_apply (M := 4096) (K := 7168) (N := 9216) none X W (constant S4096x9216 .f32 0x00000000#32) r q
  rw [← h]
  unfold k0_pay1
  simp only [shapeCast_self]
  have e : ∀ v : FVec Ideal S1x1 .f32, broadcastTo S4096x9216 v broadcasts_S1x1_S4096x9216 (ix2 r q) = v (ix2 0 0) := fun v =>
    broadcastTo_apply v _ _ _ fun a => by match a with | ⟨0, _⟩ => rfl | ⟨1, _⟩ => rfl
  rw [← e d, ← mulf_apply a b (ix2 0 0), ← e (mulf a b)]
  rfl

/-- The host reshape of a one-element array to one row and one column keeps the element. -/
theorem V_v0 (c : Dev nD) : V m c main_v0 (ix2 0 0) = m ((c : Thread nD τ).loc main_arg2) i0 := by
  show StableHlo.after hostOps0 (fun b => m (c, b)) (Proc.devRef .tc main_v0) (ix2 0 0) = _
  simp only [hostOps0, StableHlo.after_cons, StableHlo.after_nil]
  rw [StableHlo.reshape_result_ne _ _ _ _ _ _ _ (by decide), StableHlo.reshape_result_ne _ _ _ _ _ _ _ (by decide), StableHlo.reshape_result']
  exact congrArg (m ((c : Thread nD τ).loc main_arg2)) (idx1_eq _)

/-- The host reshape of the second scale keeps its element. -/
theorem V_v1 (c : Dev nD) : V m c main_v1 (ix2 0 0) = m ((c : Thread nD τ).loc main_arg3) i0 := by
  show StableHlo.after hostOps0 (fun b => m (c, b)) (Proc.devRef .tc main_v1) (ix2 0 0) = _
  simp only [hostOps0, StableHlo.after_cons, StableHlo.after_nil]
  rw [StableHlo.reshape_result_ne _ _ _ _ _ _ _ (by decide), StableHlo.reshape_result', StableHlo.reshape_result_ne _ _ _ _ _ _ _ (by decide)]
  exact congrArg (m ((c : Thread nD τ).loc main_arg3)) (idx1_eq _)

/-- The host reshape of the third scale keeps its element. -/
theorem V_v2 (c : Dev nD) : V m c main_v2 (ix2 0 0) = m ((c : Thread nD τ).loc main_arg4) i0 := by
  show StableHlo.after hostOps0 (fun b => m (c, b)) (Proc.devRef .tc main_v2) (ix2 0 0) = _
  simp only [hostOps0, StableHlo.after_cons, StableHlo.after_nil]
  rw [StableHlo.reshape_result', StableHlo.reshape_result_ne _ _ _ _ _ _ _ (by decide), StableHlo.reshape_result_ne _ _ _ _ _ _ _ (by decide)]
  exact congrArg (m ((c : Thread nD τ).loc main_arg4)) (idx1_eq _)

/-- Every window's one block is its whole array. -/
theorem idx_zero : ∀ (t : Fin cfg0.N) (a : Fin 2), win0_0.index t a = 0 ∧ win0_1.index t a = 0 ∧ win0_2.index t a = 0 ∧ win0_3.index t a = 0 ∧ win0_4.index t a = 0 ∧ win0_5.index t a = 0 :=
  (by decide +kernel : ∀ (t : Fin grid0.N) (a : Fin 2), win0_0.index t a = 0 ∧ win0_1.index t a = 0 ∧ win0_2.index t a = 0 ∧ win0_3.index t a = 0 ∧ win0_4.index t a = 0 ∧ win0_5.index t a = 0)

/-- The one block of the left factor is all of it. -/
theorem blk0 (c : Dev nD) (t : Fin cfg0.N) (r : Fin 4096) (k : Fin 7168) : iblk m c 0 t (ix2 r k) = m ((c : Thread nD τ).loc main_arg0) (ix2 r k) := by
  rw [← V_main_arg0 m c]
  refine congrArg (V m c main_arg0) (Shape.idx_ext₂ ?_ ?_)
  · show win0_0.index t 0 * 4096 + 1 * r.val = r.val
    rw [(idx_zero t 0).1]; omega
  · show win0_0.index t 1 * 7168 + 1 * k.val = k.val
    rw [(idx_zero t 1).1]; omega

/-- The one block of the right factor is all of it. -/
theorem blk1 (c : Dev nD) (t : Fin cfg0.N) (k : Fin 7168) (q : Fin 9216) : iblk m c 1 t (ix2 k q) = m ((c : Thread nD τ).loc main_arg1) (ix2 k q) := by
  rw [← V_main_arg1 m c]
  refine congrArg (V m c main_arg1) (Shape.idx_ext₂ ?_ ?_)
  · show win0_1.index t 0 * 7168 + 1 * k.val = k.val
    rw [(idx_zero t 0).2.1]; omega
  · show win0_1.index t 1 * 9216 + 1 * q.val = q.val
    rw [(idx_zero t 1).2.1]; omega

/-- The first scale. -/
theorem blk2 (c : Dev nD) (t : Fin cfg0.N) : iblk m c 2 t (ix2 0 0) = m ((c : Thread nD τ).loc main_arg2) i0 := by
  rw [← V_v0 m c]
  refine congrArg (V m c main_v0) (Shape.idx_ext₂ ?_ ?_)
  · show win0_2.index t 0 * 1 + 1 * 0 = 0
    rw [(idx_zero t 0).2.2.1]
  · show win0_2.index t 1 * 1 + 1 * 0 = 0
    rw [(idx_zero t 1).2.2.1]

/-- The second scale. -/
theorem blk3 (c : Dev nD) (t : Fin cfg0.N) : iblk m c 3 t (ix2 0 0) = m ((c : Thread nD τ).loc main_arg3) i0 := by
  rw [← V_v1 m c]
  refine congrArg (V m c main_v1) (Shape.idx_ext₂ ?_ ?_)
  · show win0_3.index t 0 * 1 + 1 * 0 = 0
    rw [(idx_zero t 0).2.2.2.1]
  · show win0_3.index t 1 * 1 + 1 * 0 = 0
    rw [(idx_zero t 1).2.2.2.1]

/-- The third scale. -/
theorem blk4 (c : Dev nD) (t : Fin cfg0.N) : iblk m c 4 t (ix2 0 0) = m ((c : Thread nD τ).loc main_arg4) i0 := by
  rw [← V_v2 m c]
  refine congrArg (V m c main_v2) (Shape.idx_ext₂ ?_ ?_)
  · show win0_4.index t 0 * 1 + 1 * 0 = 0
    rw [(idx_zero t 0).2.2.2.2.1]
  · show win0_4.index t 1 * 1 + 1 * 0 = 0
    rw [(idx_zero t 1).2.2.2.2.1]

/-- What the one point writes back is the whole array of codes. -/
theorem flushed_eq (c : Dev nD) (t : Fin cfg0.N) :
    (dats m 0 c).flushed 5 t = ((cfg0.win 5).blk t).view.read (Elt Ideal) (codes m c) := by
  rw [Cert.RefUpIdeal.Value.flushed5]
  unfold out0_5
  rw [View.canon_unit_zero zero2, View.ld_unit_zero zero2, View.ld_unit_zero zero2, View.ld_unit_zero zero2, View.ld_unit_zero zero2, View.ld_unit_zero zero2]
  funext y
  obtain ⟨r, q, rfl⟩ : ∃ (r : Fin 4096) (q : Fin 9216), y = ix2 r q := ⟨y 0, y 1, eq_ix2 y⟩
  refine (pay_apply (iblk m c 0 t) (iblk m c 1 t) (iblk m c 2 t) (iblk m c 3 t) (iblk m c 4 t) r q).trans ?_
  have hd : dot (iblk m c 0 t) (iblk m c 1 t) r q = dot (m ((c : Thread nD τ).loc main_arg0)) (m ((c : Thread nD τ).loc main_arg1)) r q :=
    dot_congr _ _ _ _ _ _ _ _ (fun k => blk0 m c t r k) (fun k => blk1 m c t k q)
  have he : ((cfg0.win 5).blk t).view.emb (ix2 r q) = (ix2 r q : S4096x9216.Idx) := Shape.idx_ext₂
    (by show win0_5.index t 0 * 4096 + 1 * r.val = r.val; rw [(idx_zero t 0).2.2.2.2.2]; omega)
    (by show win0_5.index t 1 * 9216 + 1 * q.val = q.val; rw [(idx_zero t 1).2.2.2.2.2]; omega)
  rw [hd, blk2, blk3, blk4]
  exact (congrArg (codes m c) he).symm

/-- The one point writes back the whole array. -/
theorem cover (i : S4096x9216.Idx) : ∃ t : Fin cfg0.N, (cfg0.win 5).flush t = true ∧ i ∈ ((cfg0.win 5).blk t).view.set := by
  have h0 : (i 0).val < 4096 := (i 0).isLt
  have h1 : (i 1).val < 9216 := (i 1).isLt
  have ht : 0 < cfg0.N := by rw [show cfg0.N = 1 from N_0]; omega
  refine ⟨⟨0, ht⟩, flush0_5 _, ?_⟩
  show i ∈ ((View.whole main_v3).slice (win0_5.rect ⟨0, ht⟩)).set
  rw [View.set_slice_whole, Rect.mem_set_unit]
  intro a
  match a with
  | ⟨0, _⟩ => show win0_5.index ⟨0, ht⟩ 0 * 4096 ≤ (i 0).val ∧ (i 0).val < win0_5.index ⟨0, ht⟩ 0 * 4096 + 4096
              rw [(idx_zero _ 0).2.2.2.2.2]; omega
  | ⟨1, _⟩ => show win0_5.index ⟨0, ht⟩ 1 * 9216 ≤ (i 1).val ∧ (i 1).val < win0_5.index ⟨0, ht⟩ 1 * 9216 + 9216
              rw [(idx_zero _ 1).2.2.2.2.2]; omega

/-- The reference's result array after its run. -/
theorem final (c : Dev nD) : (dats m 0 c).arrAt 5 cfg0.N = codes m c :=
  (dats m 0 c).arrAt_eq_of_cover 5 (codes m c) (fun t _ => flushed_eq m c t) cover

end Cert.UpRef

namespace Cert.UpClaims

open Cert.UpKernel (i0 idx1_eq)

/-- Where the scale is not zero, multiplying by its reciprocal is dividing by it. -/
theorem codes_eq (x : (⟨2, ![4096, 7168]⟩ : Shape).Idx → EReal) (w : (⟨2, ![7168, 9216]⟩ : Shape).Idx → EReal) (sx ws sh : EReal) (h : sh ≠ 0)
    (i : (⟨2, ![4096, 9216]⟩ : Shape).Idx) : Cert.UpKernel.codesOf x w sx ws sh i = Cert.UpRef.codesOf x w sx ws sh i := by
  unfold Cert.UpKernel.codesOf Cert.UpRef.codesOf
  rw [Ideal.ofBits_one_f32, Ideal.mul_one_div h]

/-- The shape fact the precondition states. -/
theorem preFacts : Cert.Pre_scale_not_zero.Facts where
  shapeCasts_S1_S_ := by decide

/-- The precondition, read: the scale is not zero. -/
theorem scale_ne_zero (m : (ℓ : Loc Cert.SharedUpIdeal.nD Cert.SharedUpIdeal.τ Cert.SharedUpIdeal.sig) → Buf (Elt Ideal) ℓ)
    (h : Cert.Pre_SharedUpIdeal_scale_not_zero (hPre_scale_not_zero := preFacts) m) (c : Dev Cert.SharedUpIdeal.nD) :
    m ((c : Thread Cert.SharedUpIdeal.nD Cert.SharedUpIdeal.τ).loc Cert.SharedUpIdeal.main_arg4) i0 ≠ (0 : EReal) := by
  intro h0
  have h1 := congrFun (h c) ix0
  unfold Cert.Pre_scale_not_zero.fn at h1
  have e : shapeCast Cert.Pre_scale_not_zero.S_ (m ((c : Thread Cert.SharedUpIdeal.nD Cert.SharedUpIdeal.τ).loc Cert.SharedUpIdeal.main_arg4)) preFacts.shapeCasts_S1_S_ ix0 = (0 : EReal) :=
    (congrArg (m ((c : Thread Cert.SharedUpIdeal.nD Cert.SharedUpIdeal.τ).loc Cert.SharedUpIdeal.main_arg4)) (idx1_eq _)).trans h0
  have e2 : Ideal.cmp .une (shapeCast Cert.Pre_scale_not_zero.S_ (m ((c : Thread Cert.SharedUpIdeal.nD Cert.SharedUpIdeal.τ).loc Cert.SharedUpIdeal.main_arg4)) preFacts.shapeCasts_S1_S_ ix0) (Ideal.ofBits .f32 0#32) = 1#1 := h1
  rw [e, Ideal.ofBits_zero_f32] at e2
  simp [Ideal.cmp] at e2

/-- Where the scale is not zero, the kernel's codes are the reference's, on the same arguments. -/
theorem algebraic : Cert.algebraic_SharedUpIdeal_RefUpIdeal_pre_scale_not_zero (hSharedUpIdeal := Cert.SharedUpIdeal.Gen.facts) (hRefUpIdeal := Cert.RefUpIdeal.Gen.facts) (hPre_scale_not_zero := preFacts) := by
  intro m g m' g' hpre hargs
  refine ⟨fun c => Cert.UpKernel.codes m c, ?_, ?_⟩
  · refine (θ_run (Cert.SharedUpIdeal.defs (F := Ideal)) _ _).mono (fun r h c => ?_) (Cert.SharedUpIdeal.Value.run_blocks m g)
    exact ⟨(h c).1.trans (Cert.UpKernel.final m c), (h c).2⟩
  · refine (θ_run (Cert.RefUpIdeal.defs (F := Ideal)) _ _).mono (fun r h c => ?_) (Cert.RefUpIdeal.Value.run_blocks m' g')
    refine ⟨(h c).1.trans ((Cert.UpRef.final m' c).trans ?_), (h c).2⟩
    funext i
    show Cert.UpRef.codesOf _ _ _ _ _ i = Cert.UpKernel.codesOf _ _ _ _ _ i
    obtain ⟨a0, a1, a2, a3, a4⟩ := hargs c
    rw [a0, a1, a2, a3, a4]
    exact (codes_eq _ _ _ _ _ (scale_ne_zero m hpre c) i).symm

end Cert.UpClaims
end
-- ==== Proof.DownLoop.lean ====
module

public import proofs.«01_k».proof.Proof.Gen.DownIdeal.Skeleton
public import proofs.«01_k».proof.Proof.Gen.DownIdeal.Loops
public import proofs.«01_k».proof.Proof.Gen.DownIdeal.Frame
public import Idealize.ShloMosaic.Lib.Pipeline.FrameBody
public import Idealize.ShloMosaic.Lib.Pipeline.Value
public import Idealize.ShloMosaic.Lib.ValueIdx

@[expose] public section

set_option maxRecDepth 16384

noncomputable section

namespace Cert.DownKernel

open Idealize.ShloMosaic Idealize.ShloMosaic.TcCoe Idealize.SL.Sem
open Idealize.ShloMosaic.ValueIdx
open Cert.DownIdeal Cert.DownIdeal.Gen

variable {F : FTy → Type} [FloatOps F]

/-- An array of 1024 rows put together from 32 groups of 32 rows. -/
def tiled {N : Nat} {α : Type} (f : Fin 32 → (⟨2, ![32, N]⟩ : Shape).Idx → α) (y : (⟨2, ![1024, N]⟩ : Shape).Idx) : α :=
  f ⟨(y 0).val / 32, by have h : (y 0).val < 1024 := (y 0).isLt; omega⟩ (ix2 ⟨(y 0).val % 32, by omega⟩ (y 1))

/-- At row `32 n + r` stands row `r` of group `n`. -/
theorem tiled_at {N : Nat} {α : Type} (f : Fin 32 → (⟨2, ![32, N]⟩ : Shape).Idx → α) (n : Fin 32) (z : (⟨2, ![32, N]⟩ : Shape).Idx)
    (y : (⟨2, ![1024, N]⟩ : Shape).Idx) (h0 : (y 0).val = 32 * n.val + (z 0).val) (h1 : (y 1).val = (z 1).val) : tiled f y = f n z := by
  have hz : (z 0).val < 32 := (z 0).isLt
  unfold tiled
  exact congr (congrArg f (Fin.ext (show (y 0).val / 32 = n.val by omega))) (Shape.idx_ext₂ (show (y 0).val % 32 = (z 0).val by omega) h1)

/-- The pieces of `L` hold values of `G`, and together they hold the first `32 n` rows. -/
def Filled {N : Nat} {e : EltTy} (G : (⟨2, ![1024, N]⟩ : Shape).Idx → Elt F e) (n : Nat) (L : List (View.Piece (Elt F) ⟨2, ![1024, N]⟩ e)) : Prop :=
  (∀ p ∈ L, ∀ x : p.1.shape.Idx, p.2 x = G (p.1.emb x)) ∧ ∀ y : (⟨2, ![1024, N]⟩ : Shape).Idx, (y 0).val < 32 * n → ∃ p ∈ L, y ∈ p.1.set

/-- One more group of 32 rows. -/
theorem Filled.cons {N : Nat} {e : EltTy} {f : Fin 32 → (⟨2, ![32, N]⟩ : Shape).Idx → Elt F e} {n : Fin 32} {L : List (View.Piece (Elt F) ⟨2, ![1024, N]⟩ e)}
    (h : Filled (tiled f) n.val L) (off : Fin 2 → Nat) (hoff : off = ![32 * n.val, 0])
    (inb : ∀ a : Fin 2, off a + ![32, N] a ≤ (⟨2, ![1024, N]⟩ : Shape).size a) (pay : (⟨2, ![32, N]⟩ : Shape).Idx → Elt F e) (hpay : pay = f n) :
    Filled (tiled f) (n.val + 1) (⟨Rect.unit (s := ⟨2, ![1024, N]⟩) off ![32, N] inb, pay⟩ :: L) := by
  subst hoff hpay
  refine ⟨fun p hp => ?_, fun y hy => ?_⟩
  · rcases List.mem_cons.1 hp with rfl | hp
    · intro z
      exact (tiled_at f n z _ (show 32 * n.val + 1 * (z 0).val = _ by omega) (show 0 + 1 * (z 1).val = _ by omega)).symm
    · exact h.1 p hp
  · by_cases hlt : (y 0).val < 32 * n.val
    · obtain ⟨p, hp, hm⟩ := h.2 y hlt
      exact ⟨p, List.mem_cons_of_mem _ hp, hm⟩
    · refine ⟨_, List.mem_cons_self, ?_⟩
      have h1 : (y 1).val < N := (y 1).isLt
      rw [Rect.mem_set_unit]
      intro a
      match a with
      | ⟨0, _⟩ => exact ⟨show 32 * n.val ≤ (y 0).val by omega, show (y 0).val < 32 * n.val + 32 by omega⟩
      | ⟨1, _⟩ => exact ⟨show 0 ≤ (y 1).val by omega, show (y 1).val < 0 + N by omega⟩

/-- Once all 32 groups are written, the buffer reads as `G`. -/
theorem Filled.read {N : Nat} {e : EltTy} {G : (⟨2, ![1024, N]⟩ : Shape).Idx → Elt F e} {L : List (View.Piece (Elt F) ⟨2, ![1024, N]⟩ e)}
    (h : Filled G 32 L) {κ : Kind} {sp : Space} (v : View sig κ sp ⟨2, ![1024, N]⟩ e) (g : v.ty.Contents (Elt F)) :
    v.read (Elt F) (v.writes (Elt F) g L) = G := by
  have hc : ∀ y : (⟨2, ![1024, N]⟩ : Shape).Idx, ∃ p ∈ L, y ∈ p.1.set := fun y => h.2 y (by have h : (y 0).val < 1024 := (y 0).isLt; omega)
  rw [View.read_writes_eq_canon v g L hc]
  exact funext fun y => View.canon_apply_of_pieces G L h.1 y (hc y)

/-- Rows `32 n` to `32 n + 31` of a block of 1024 rows. -/
def rows (x : Vec F S1024x1792 .f32) (n : Fin 32) : Vec F S32x1792 .f32 :=
  fun z => x (ix2 ⟨32 * n.val + (z 0).val, by have h : (z 0).val < 32 := (z 0).isLt; omega⟩ (z 1))

/-- The 8-bit codes of a block of rows. -/
def codesB (x : Vec F S1024x1792 .f32) : Vec F S1024x1792 .fp8e4m3 := tiled (N := 1792) fun n => k0_pay3 (rows x n)

/-- The row scales of a block of rows. -/
def scalesB (x : Vec F S1024x1792 .f32) : Vec F S1024x1 .f32 := tiled (N := 1) fun n => k0_pay2 (rows x n)

/-- The row scales, each repeated over 128 columns. -/
def wideB (x : Vec F S1024x1792 .f32) : Vec F S1024x128 .f32 := tiled (N := 128) fun n => k0_pay4 (rows x n)

/-- The row a trip of the loop starts at. -/
theorem word_row (k : Fin k0_t1_loop.trips) : (Scalar.indexCast (Scalar.muli (Scf.iv 0#32 1#32 k) 32#32)).toNat = 32 * k.val := by
  have h_c0_i32_50 : Affine.IsInt 0#32 (0) := Affine.ofNat _ (by omega)
  have h_c1_i32 : Affine.IsInt 1#32 (1) := Affine.ofNat _ (by omega)
  have r_k0_t1 : k.val < 32 := Nat.lt_of_lt_of_le k.isLt k0_t1_abs.2.1
  have h_arg14 : Affine.IsInt _ ((k.val : Int)) := Affine.iv h_c0_i32_50 h_c1_i32 k.val (by omega)
  have h_c32_i32_52 : Affine.IsInt 32#32 (32) := Affine.ofNat _ (by omega)
  have h_v81 : Affine.IsInt _ (32 * (k.val : Int)) := Affine.muli h_arg14 h_c32_i32_52 (by omega)
  have h_v83 : Affine.IsInt _ (32 * (k.val : Int)) := Affine.indexCast h_v81
  have := Affine.toNat_of h_v83 (by omega)
  omega

/-- Trip `k` reads from row `32 * k` on. -/
theorem off1_eq (k : Fin k0_t1_loop.trips) : k0_off1 k = ![32 * k.val, 0] := by
  rw [← word_row k]; rfl
/-- Trip `k` writes codes from row `32 * k` on. -/
theorem off2_eq (k : Fin k0_t1_loop.trips) : k0_off2 k = ![32 * k.val, 0] := by
  rw [← word_row k]; rfl
/-- Trip `k` writes scales from row `32 * k` on. -/
theorem off3_eq (k : Fin k0_t1_loop.trips) : k0_off3 k = ![32 * k.val, 0] := by
  rw [← word_row k]; rfl

/-- What a trip reads of the block. -/
theorem ld_rows (x : Vec F S1024x1792 .f32) (k : Fin k0_t1_loop.trips) (n : Fin 32) (hn : n.val = k.val)
    (inb : ∀ a, (k0_off1 k) a + S32x1792.size a ≤ S1024x1792.size a) :
    View.ld x (Rect.unit (s := S1024x1792) (k0_off1 k) S32x1792.size inb) = rows x n := by
  funext z
  refine congrArg x (Shape.idx_ext₂ ?_ ?_)
  · show k0_off1 k 0 + 1 * (z 0).val = 32 * n.val + (z 0).val
    have e : k0_off1 k 0 = 32 * k.val := by rw [off1_eq k]; rfl
    omega
  · show k0_off1 k 1 + 1 * (z 1).val = (z 1).val
    have e : k0_off1 k 1 = 0 := by rw [off1_eq k]; rfl
    omega

/-- The stores of one trip. -/
theorem trip_eq (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1024x512 .bf16) (harg4 : arg4.IsWhole) (arg5 : Memref sig .tc .vmem S1024x9216 .fp8e4m3) (harg5 : arg5.IsWhole) (arg6 : Memref sig .tc .vmem S9216x512 .fp8e4m3) (harg6 : arg6.IsWhole) (arg7 : Memref sig .tc .vmem S1024x1792 .f32) (harg7 : arg7.IsWhole) (arg8 : Memref sig .tc .vmem S1792x512 .fp8e4m3) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x1792 .fp8e4m3) (harg11 : arg11.IsWhole) (arg12 : Memref sig .tc .vmem S1024x1 .f32) (harg12 : arg12.IsWhole) (arg13 : Memref sig .tc .vmem S1024x128 .f32) (harg13 : arg13.IsWhole) (h : k0_cond1 i = 1#1) (x : Vec F S1024x1792 .f32) (k : Fin k0_t1_loop.trips) (n : Fin 32) (hn : n.val = k.val) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 h (harg7.unread x) k
      = ([⟨Rect.unit (s := S1024x1792) (k0_off1 k) S32x1792.size (k0_off1_inb i k h), k0_pay3 (rows x n)⟩],
         [⟨Rect.unit (s := S1024x1) (k0_off2 k) S32x1.size (k0_off2_inb i k h), k0_pay2 (rows x n)⟩],
         [⟨Rect.unit (s := S1024x128) (k0_off3 k) S32x128.size (k0_off3_inb i k h), k0_pay4 (rows x n)⟩]) := by
  rw [← ld_rows x k n hn (k0_off1_inb i k h)]
  unfold tripL_k0_t1 trip_k0_t1
  dsimp only
  try sl_unfold_words
  simp only [View.readAt_eq_ld, harg7.read_unread]

/-- What the trips before `n` have stored. -/
theorem loop_filled (𝒱 : Variants) (c : Dev nD) (bd : Option 𝒱.V) (i : grid0.Coords) (arg2 : Memref sig .tc .smem S1 .f32) (harg2 : arg2.IsWhole) (arg3 : Memref sig .tc .smem S1 .f32) (harg3 : arg3.IsWhole) (arg4 : Memref sig .tc .vmem S1024x512 .bf16) (harg4 : arg4.IsWhole) (arg5 : Memref sig .tc .vmem S1024x9216 .fp8e4m3) (harg5 : arg5.IsWhole) (arg6 : Memref sig .tc .vmem S9216x512 .fp8e4m3) (harg6 : arg6.IsWhole) (arg7 : Memref sig .tc .vmem S1024x1792 .f32) (harg7 : arg7.IsWhole) (arg8 : Memref sig .tc .vmem S1792x512 .fp8e4m3) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x1792 .fp8e4m3) (harg11 : arg11.IsWhole) (arg12 : Memref sig .tc .vmem S1024x1 .f32) (harg12 : arg12.IsWhole) (arg13 : Memref sig .tc .vmem S1024x128 .f32) (harg13 : arg13.IsWhole) (h : k0_cond1 i = 1#1) (x : Vec F S1024x1792 .f32) : ∀ n : Nat, n ≤ k0_t1_loop.trips →
    Filled (N := 1792) (codesB x) n (pb_k0_t1 (F := F) 𝒱 c bd i arg2 harg2 arg3 harg3 arg4 harg4 arg5 harg5 arg6 harg6 arg7 harg7 arg8 harg8 arg9 harg9 arg10 harg10 arg11 harg11 arg12 harg12 arg13 harg13 h (harg7.unread x) n).1
      ∧ Filled (N := 1) (scalesB x) n (pb_k0_t1 (F := F) 𝒱 c bd i arg2 harg2 arg3 harg3 arg4 harg4 arg5 harg5 arg6 harg6 arg7 harg7 arg8 harg8 arg9 harg9 arg10 harg10 arg11 harg11 arg12 harg12 arg13 harg13 h (harg7.unread x) n).2.1
      ∧ Filled (N := 128) (wideB x) n (pb_k0_t1 (F := F) 𝒱 c bd i arg2 harg2 arg3 harg3 arg4 harg4 arg5 harg5 arg6 harg6 arg7 harg7 arg8 harg8 arg9 harg9 arg10 harg10 arg11 harg11 arg12 harg12 arg13 harg13 h (harg7.unread x) n).2.2
  | 0, _ => ⟨⟨fun _ hp => absurd hp List.not_mem_nil, fun _ hy => absurd hy (by omega)⟩, ⟨fun _ hp => absurd hp List.not_mem_nil, fun _ hy => absurd hy (by omega)⟩, ⟨fun _ hp => absurd hp List.not_mem_nil, fun _ hy => absurd hy (by omega)⟩⟩
  | n + 1, hn => by
    obtain ⟨h1, h2, h3⟩ := loop_filled 𝒱 c bd i arg2 harg2 arg3 harg3 arg4 harg4 arg5 harg5 arg6 harg6 arg7 harg7 arg8 harg8 arg9 harg9 arg10 harg10 arg11 harg11 arg12 harg12 arg13 harg13 h x n (by omega)
    have ht := k0_t1_abs.2.1
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 h (harg7.unread x) ⟨n, hn⟩
    rw [trip_eq 𝒱 c bd i arg2 harg2 arg3 harg3 arg4 harg4 arg5 harg5 arg6 harg6 arg7 harg7 arg8 harg8 arg9 harg9 arg10 harg10 arg11 harg11 arg12 harg12 arg13 harg13 h x ⟨n, hn⟩ ⟨n, by omega⟩ rfl] at e
    rw [e]
    exact ⟨h1.cons (n := ⟨n, by omega⟩) _ (off1_eq _) _ _ rfl, h2.cons (n := ⟨n, by omega⟩) _ (off2_eq _) _ _ rfl, h3.cons (n := ⟨n, by omega⟩) _ (off3_eq _) _ _ rfl⟩

/-- The loop runs 32 times. -/
theorem trips_eq : k0_t1_loop.trips = 32 := by decide

end Cert.DownKernel
-- ==== Proof.DownRun.lean ====
module

public import proofs.«01_k».proof.Proof.DownLoop
public import Idealize.ShloMosaic.Lib.Ring
public import Idealize.ShloMosaic.Lib.Tactic
public import Idealize.ShloMosaic.Lib.WordCmp

@[expose] public section

set_option maxRecDepth 16384

noncomputable section

namespace Cert.DownKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.DownIdeal Cert.DownIdeal.Gen

variable {F : FTy → Type} [FloatOps F]

local notation "𝕄" => MT nD τ sig Unit (Elt F) ℕ (UR sig nD τ) ℕ

/-- The two ways to write the offset zero. -/
theorem zero2 : (![0, 0] : Fin 2 → Nat) = fun _ => 0 := funext fun a => by fin_cases a <;> rfl

/-- The only index of a one-element array. -/
abbrev i0 : S1.Idx := ix1 (0 : Fin 1)

/-- A one-element array has one index. -/
theorem idx1_eq (i : S1.Idx) : i = i0 := by
  funext a; apply Fin.ext
  match a with
  | ⟨0, _⟩ => have : (i 0).val < 1 := (i 0).isLt
              show (i 0).val = 0; omega

/-- The four stores of the sum, last first: the columns from 384, 256, 128 and 0 on, from the two scales, the summand, the two pairs
of factors, the column scales and the row scales. -/
def outL (v3 v4 : Elt F .f32) (x2 : Vec F S1024x512 .bf16) (x3 : Vec F S1024x9216 .fp8e4m3) (x4 : Vec F S9216x512 .fp8e4m3)
    (a : Vec F S1024x1792 .fp8e4m3) (x6 : Vec F S1792x512 .fp8e4m3) (x7 : Vec F S1x512 .f32) (s : Vec F S1024x128 .f32) :
    List (View.Piece (Elt F) S1024x512 .bf16) :=
  [⟨Rect.unit (s := S1024x512) ![0, 384] S1024x128.size inb_S1024x512_S1024x128_0_384,
      k0_pay1 (k0_pay11 (k0_pay5 v3 v4) x3 (View.ld x4 (Rect.unit (s := S9216x512) ![0, 256] S9216x256.size inb_S9216x512_S9216x256_0_256)))
        (k0_pay12 a (View.ld x6 (Rect.unit (s := S1792x512) ![0, 256] S1792x256.size inb_S1792x512_S1792x256_0_256))) s
        (View.ld x7 (Rect.unit (s := S1x512) ![0, 384] S1x128.size inb_S1x512_S1x128_0_384))
        (View.ld x2 (Rect.unit (s := S1024x512) ![0, 384] S1024x128.size inb_S1024x512_S1024x128_0_384))⟩,
   ⟨Rect.unit (s := S1024x512) ![0, 256] S1024x128.size inb_S1024x512_S1024x128_0_256,
      k0_pay13 (k0_pay5 v3 v4) x3 (View.ld x4 (Rect.unit (s := S9216x512) ![0, 256] S9216x256.size inb_S9216x512_S9216x256_0_256)) a
        (View.ld x6 (Rect.unit (s := S1792x512) ![0, 256] S1792x256.size inb_S1792x512_S1792x256_0_256)) s
        (View.ld x7 (Rect.unit (s := S1x512) ![0, 256] S1x128.size inb_S1x512_S1x128_0_256))
        (View.ld x2 (Rect.unit (s := S1024x512) ![0, 256] S1024x128.size inb_S1024x512_S1024x128_0_256))⟩,
   ⟨Rect.unit (s := S1024x512) ![0, 128] S1024x128.size inb_S1024x512_S1024x128_0_128,
      k0_pay10 (k0_pay6 v3 v4 x3 (View.ld x4 (Rect.unit (s := S9216x512) ![0, 0] S9216x256.size inb_S9216x512_S9216x256_0_0)))
        (k0_pay9 a (View.ld x6 (Rect.unit (s := S1792x512) ![0, 0] S1792x256.size inb_S1792x512_S1792x256_0_0)) s)
        (View.ld x7 (Rect.unit (s := S1x512) ![0, 128] S1x128.size inb_S1x512_S1x128_0_128))
        (View.ld x2 (Rect.unit (s := S1024x512) ![0, 128] S1024x128.size inb_S1024x512_S1024x128_0_128))⟩,
   ⟨Rect.unit (s := S1024x512) ![0, 0] S1024x128.size inb_S1024x512_S1024x128_0_0,
      k0_pay8 v3 v4 x3 (View.ld x4 (Rect.unit (s := S9216x512) ![0, 0] S9216x256.size inb_S9216x512_S9216x256_0_0)) a
        (View.ld x6 (Rect.unit (s := S1792x512) ![0, 0] S1792x256.size inb_S1792x512_S1792x256_0_0)) s
        (View.ld x7 (Rect.unit (s := S1x512) ![0, 0] S1x128.size inb_S1x512_S1x128_0_0))
        (View.ld x2 (Rect.unit (s := S1024x512) ![0, 0] S1024x128.size inb_S1024x512_S1024x128_0_0))⟩]

/-- The block of the sum a point leaves. -/
def outB (v3 v4 : Elt F .f32) (x2 : Vec F S1024x512 .bf16) (x3 : Vec F S1024x9216 .fp8e4m3) (x4 : Vec F S9216x512 .fp8e4m3)
    (a : Vec F S1024x1792 .fp8e4m3) (x6 : Vec F S1792x512 .fp8e4m3) (x7 : Vec F S1x512 .f32) (s : Vec F S1024x128 .f32) : Vec F S1024x512 .bf16 :=
  View.canon (outL v3 v4 x2 x3 x4 a x6 x7 s)

/-- Four stores of 128 columns each, side by side, fill the block. -/
theorem cover4 (p q r s : S1024x128.Idx → Elt F .bf16) (y : S1024x512.Idx) :
    ∃ w ∈ ([⟨Rect.unit (s := S1024x512) ![0, 384] S1024x128.size inb_S1024x512_S1024x128_0_384, p⟩,
      ⟨Rect.unit (s := S1024x512) ![0, 256] S1024x128.size inb_S1024x512_S1024x128_0_256, q⟩,
      ⟨Rect.unit (s := S1024x512) ![0, 128] S1024x128.size inb_S1024x512_S1024x128_0_128, r⟩,
      ⟨Rect.unit (s := S1024x512) ![0, 0] S1024x128.size inb_S1024x512_S1024x128_0_0, s⟩] : List (View.Piece (Elt F) S1024x512 .bf16)), y ∈ w.1.set := by
  have h0 : (y 0).val < 1024 := (y 0).isLt
  have h1 : (y 1).val < 512 := (y 1).isLt
  have key : ∀ (o : Nat) (ho : ∀ a : Fin 2, ![0, o] a + S1024x128.size a ≤ S1024x512.size a), o ≤ (y 1).val → (y 1).val < o + 128 →
      y ∈ (Rect.unit (s := S1024x512) ![0, o] S1024x128.size ho).set := by
    intro o ho hl hu
    rw [Rect.mem_set_unit]
    intro a
    match a with
    | ⟨0, _⟩ => exact ⟨show 0 ≤ (y 0).val by omega, show (y 0).val < 0 + 1024 by omega⟩
    | ⟨1, _⟩ => exact ⟨hl, hu⟩
  by_cases c3 : 384 ≤ (y 1).val
  · exact ⟨_, List.mem_cons_self, key 384 inb_S1024x512_S1024x128_0_384 c3 (by omega)⟩
  by_cases c2 : 256 ≤ (y 1).val
  · exact ⟨_, List.mem_cons_of_mem _ List.mem_cons_self, key 256 inb_S1024x512_S1024x128_0_256 c2 (by omega)⟩
  by_cases c1 : 128 ≤ (y 1).val
  · exact ⟨_, List.mem_cons_of_mem _ (List.mem_cons_of_mem _ List.mem_cons_self), key 128 inb_S1024x512_S1024x128_0_128 c1 (by omega)⟩
  · exact ⟨_, List.mem_cons_of_mem _ (List.mem_cons_of_mem _ (List.mem_cons_of_mem _ List.mem_cons_self)), key 0 inb_S1024x512_S1024x128_0_0 (by omega) (by omega)⟩

/-- The stores cover the block, so it reads as `outB` whatever it held before; the two scales may be read at any index of their one-element arrays. -/
theorem out_read (x0 x1 : Vec F S1 .f32) (x2 : Vec F S1024x512 .bf16) (x3 : Vec F S1024x9216 .fp8e4m3) (x4 : Vec F S9216x512 .fp8e4m3)
    (a : Vec F S1024x1792 .fp8e4m3) (x6 : Vec F S1792x512 .fp8e4m3) (x7 : Vec F S1x512 .f32) (s : Vec F S1024x128 .f32)
    (j0 j1 : S1.Idx) {κ : Kind} {sp : Space} (v : View sig κ sp S1024x512 .bf16) (g : v.ty.Contents (Elt F)) :
    v.read (Elt F) (v.writes (Elt F) g (outL (x0 j0) (x1 j1) x2 x3 x4 a x6 x7 s)) = outB (x0 i0) (x1 i0) x2 x3 x4 a x6 x7 s := by
  rw [idx1_eq j0, idx1_eq j1]
  exact View.read_writes_eq_canon v g _ (cover4 _ _ _ _)

set_option maxHeartbeats 1000000 in
/-- A point that does not quantise: it finds the codes and the repeated row scales, leaves them, and writes its block of the sum. -/
theorem run_keep (c : Dev nD) (i : grid0.Coords) (arg2 : Memref sig .tc .smem S1 .f32) (harg2 : arg2.IsWhole) (arg3 : Memref sig .tc .smem S1 .f32) (harg3 : arg3.IsWhole) (arg4 : Memref sig .tc .vmem S1024x512 .bf16) (harg4 : arg4.IsWhole) (arg5 : Memref sig .tc .vmem S1024x9216 .fp8e4m3) (harg5 : arg5.IsWhole) (arg6 : Memref sig .tc .vmem S9216x512 .fp8e4m3) (harg6 : arg6.IsWhole) (arg7 : Memref sig .tc .vmem S1024x1792 .f32) (harg7 : arg7.IsWhole) (arg8 : Memref sig .tc .vmem S1792x512 .fp8e4m3) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x1792 .fp8e4m3) (harg11 : arg11.IsWhole) (arg12 : Memref sig .tc .vmem S1024x1 .f32) (harg12 : arg12.IsWhole) (arg13 : Memref sig .tc .vmem S1024x128 .f32) (harg13 : arg13.IsWhole) (hc : ¬k0_cond1 i = 1#1)
    (x0 : Vec F S1 .f32) (x1 : Vec F S1 .f32) (x2 : Vec F S1024x512 .bf16) (x3 : Vec F S1024x9216 .fp8e4m3) (x4 : Vec F S9216x512 .fp8e4m3) (x5 : Vec F S1024x1792 .f32) (x6 : Vec F S1792x512 .fp8e4m3) (x7 : Vec F S1x512 .f32)
    (a : Vec F S1024x1792 .fp8e4m3) (p : Vec F S1024x1 .f32) (s : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare a ∗ owns (c : Thread nD τ) arg12 fullShare p ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outB (x0 i0) (x1 i0) x2 x3 x4 a x6 x7 s) ∗ owns (c : Thread nD τ) arg11 fullShare a ∗ owns (c : Thread nD τ) arg12 fullShare p ∗ owns (c : Thread nD τ) arg13 fullShare s) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13) K := by
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    try sl_unfold_words
    simp only [View.readAt_eq_ld, harg2.read_unread, harg3.read_unread, harg4.read_unread, harg5.read_unread, harg6.read_unread, harg8.read_unread, harg9.read_unread, harg11.read_unread, harg13.read_unread, View.ld_unit_zero (S := S1024x9216) zero2, View.ld_unit_zero (S := S1024x1792) zero2, View.ld_unit_zero (S := S1024x128) zero2]
    exact out_read x0 x1 x2 x3 x4 a x6 x7 s _ _ _ _
  isplitl [H9]
  · iexists _; isplitr; · ipureintro; exact harg11.read_unread _
    iexact H9
  isplitl [H10]
  · iexists _; isplitr; · ipureintro; exact harg12.read_unread _
    iexact H10
  iexists _; isplitr; · ipureintro; exact harg13.read_unread _
  iexact HS0

set_option maxHeartbeats 1000000 in
/-- The first point of a row of points: it quantises its block of rows, then writes its block of the sum from the codes and row scales. -/
theorem run_quantise (c : Dev nD) (i : grid0.Coords) (arg2 : Memref sig .tc .smem S1 .f32) (harg2 : arg2.IsWhole) (arg3 : Memref sig .tc .smem S1 .f32) (harg3 : arg3.IsWhole) (arg4 : Memref sig .tc .vmem S1024x512 .bf16) (harg4 : arg4.IsWhole) (arg5 : Memref sig .tc .vmem S1024x9216 .fp8e4m3) (harg5 : arg5.IsWhole) (arg6 : Memref sig .tc .vmem S9216x512 .fp8e4m3) (harg6 : arg6.IsWhole) (arg7 : Memref sig .tc .vmem S1024x1792 .f32) (harg7 : arg7.IsWhole) (arg8 : Memref sig .tc .vmem S1792x512 .fp8e4m3) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x1792 .fp8e4m3) (harg11 : arg11.IsWhole) (arg12 : Memref sig .tc .vmem S1024x1 .f32) (harg12 : arg12.IsWhole) (arg13 : Memref sig .tc .vmem S1024x128 .f32) (harg13 : arg13.IsWhole) (hc : k0_cond1 i = 1#1)
    (x0 : Vec F S1 .f32) (x1 : Vec F S1 .f32) (x2 : Vec F S1024x512 .bf16) (x3 : Vec F S1024x9216 .fp8e4m3) (x4 : Vec F S9216x512 .fp8e4m3) (x5 : Vec F S1024x1792 .f32) (x6 : Vec F S1792x512 .fp8e4m3) (x7 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outB (x0 i0) (x1 i0) x2 x3 x4 (codesB x5) x6 x7 (wideB x5)) ∗ owns (c : Thread nD τ) arg11 fullShare (codesB x5) ∗ owns (c : Thread nD τ) arg12 fullShare (scalesB x5) ∗ owns (c : Thread nD τ) arg13 fullShare (wideB x5)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13) K := by
  have hl := loop_filled (F := F) Variants.none c none i arg2 harg2 arg3 harg3 arg4 harg4 arg5 harg5 arg6 harg6 arg7 harg7 arg8 harg8 arg9 harg9 arg10 harg10 arg11 harg11 arg12 harg12 arg13 harg13 hc x5 k0_t1_loop.trips (le_refl _)
  rw [show Filled (N := 1792) (codesB x5) k0_t1_loop.trips = Filled (N := 1792) (codesB x5) 32 from congrArg _ trips_eq,
    show Filled (N := 1) (scalesB x5) k0_t1_loop.trips = Filled (N := 1) (scalesB x5) 32 from congrArg _ trips_eq,
    show Filled (N := 128) (wideB x5) k0_t1_loop.trips = Filled (N := 128) (wideB x5) 32 from congrArg _ trips_eq] at hl
  obtain ⟨l1, l2, l3⟩ := hl
  have e1 := fun g => l1.read arg11.view g
  have e2 := fun g => l2.read arg12.view g
  have e3 := fun g => l3.read arg13.view g
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    try sl_unfold_words
    simp only [View.readAt_eq_ld, harg2.read_unread, harg3.read_unread, harg4.read_unread, harg5.read_unread, harg6.read_unread, harg8.read_unread, harg9.read_unread, e1, e3, View.ld_unit_zero (S := S1024x9216) zero2, View.ld_unit_zero (S := S1024x1792) zero2, View.ld_unit_zero (S := S1024x128) zero2]
    exact out_read x0 x1 x2 x3 x4 (codesB x5) x6 x7 (wideB x5) _ _ _ _
  isplitl [H9]
  · iexists _; isplitr; swap; · iexact H9
    ipureintro; exact e1 _
  isplitl [H10]
  · iexists _; isplitr; swap; · iexact H10
    ipureintro; exact e2 _
  iexists _; isplitr; swap; · iexact HS0
  ipureintro; exact e3 _

end Cert.DownKernel
-- ==== Proof.DownFrame.lean ====
module

public import proofs.«01_k».proof.Proof.DownRun
public import proofs.«01_k».proof.Proof.Gen.DownIdeal.Launch
public import proofs.«01_k».proof.Proof.Gen.DownIdeal.Points
public import Idealize.ShloMosaic.Lib.Claim

@[expose] public section

set_option maxRecDepth 16384

noncomputable section

namespace Cert.DownKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.DownIdeal Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The points that quantise are the first of each row of 14 points. -/
theorem cond_iff : ∀ t : Fin cfg0.N, k0_cond1 (grid0.coords t) = 1#1 ↔ t.val % 14 = 0 :=
  (fun t => by
    have ht : t.val < 56 := Nat.lt_of_lt_of_eq t.isLt N_0
    have e0 : (grid0.coords t 0).val = t.val / 14 % 4 := Pipeline.Grid.coords_val t 0 (by decide) rfl
    have e1 : (grid0.coords t 1).val = t.val / 1 % 14 := Pipeline.Grid.coords_val t 1 (by decide) rfl
    simp only [k0_cond1, e0, e1]
    word_cmp
   : ∀ t : Fin grid0.N, k0_cond1 (grid0.coords t) = 1#1 ↔ t.val % 14 = 0)

/-- Where window 0's block is staged at a point. -/
abbrev ms0 (t : Fin cfg0.N) : Memref sig .tc .smem S1 .f32 := win0_0.stage (cfg0.slots t 0)
/-- Where window 1's block is staged at a point. -/
abbrev ms1 (t : Fin cfg0.N) : Memref sig .tc .smem S1 .f32 := win0_1.stage (cfg0.slots t 1)
/-- Where window 2's block is staged at a point. -/
abbrev ms2 (t : Fin cfg0.N) : Memref sig .tc .vmem S1024x512 .bf16 := win0_2.stage (cfg0.slots t 2)
/-- Where window 3's block is staged at a point. -/
abbrev ms3 (t : Fin cfg0.N) : Memref sig .tc .vmem S1024x9216 .fp8e4m3 := win0_3.stage (cfg0.slots t 3)
/-- Where window 4's block is staged at a point. -/
abbrev ms4 (t : Fin cfg0.N) : Memref sig .tc .vmem S9216x512 .fp8e4m3 := win0_4.stage (cfg0.slots t 4)
/-- Where window 5's block is staged at a point. -/
abbrev ms5 (t : Fin cfg0.N) : Memref sig .tc .vmem S1024x1792 .f32 := win0_5.stage (cfg0.slots t 5)
/-- Where window 6's block is staged at a point. -/
abbrev ms6 (t : Fin cfg0.N) : Memref sig .tc .vmem S1792x512 .fp8e4m3 := win0_6.stage (cfg0.slots t 6)
/-- Where window 7's block is staged at a point. -/
abbrev ms7 (t : Fin cfg0.N) : Memref sig .tc .vmem S1x512 .f32 := win0_7.stage (cfg0.slots t 7)
/-- Where window 8's block is staged at a point. -/
abbrev ms8 (t : Fin cfg0.N) : Memref sig .tc .vmem S1024x512 .bf16 := win0_8.stage (cfg0.slots t 8)
/-- Where window 9's block is staged at a point. -/
abbrev ms9 (t : Fin cfg0.N) : Memref sig .tc .vmem S1024x1792 .fp8e4m3 := win0_9.stage (cfg0.slots t 9)
/-- Where window 10's block is staged at a point. -/
abbrev ms10 (t : Fin cfg0.N) : Memref sig .tc .vmem S1024x1 .f32 := win0_10.stage (cfg0.slots t 10)
/-- The buffer the repeated row scales are carried in. -/
abbrev scM : Memref sig .tc .vmem S1024x128 .f32 := Memref.whole cc0_scratch0

/-- What the launch hands over beside the windows: the carried buffer at some contents, and the generator register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The block of rows to quantise at a point. -/
abbrev xb (c : Dev nD) (t : Fin cfg0.N) : Vec F S1024x1792 .f32 := iblk m c 5 t

/-- The block of the sum a point leaves. -/
abbrev yb (c : Dev nD) (t : Fin cfg0.N) : Vec F S1024x512 .bf16 :=
  outB (iblk m c 0 t i0) (iblk m c 1 t i0) (iblk m c 2 t) (iblk m c 3 t) (iblk m c 4 t) (codesB (xb m c t)) (iblk m c 6 t) (iblk m c 7 t) (wideB (xb m c t))

/-- The point before. -/
abbrev prev (t : Fin cfg0.N) : Fin cfg0.N := ⟨t.val - 1, Nat.lt_of_le_of_lt (Nat.sub_le _ _) t.isLt⟩

/-- The block of rows moves with the row of points only. -/
theorem idx5 : ∀ t : Fin cfg0.N, win0_5.index t 0 = t.val / 14 ∧ win0_5.index t 1 = 0 :=
  (by decide +kernel : ∀ t : Fin grid0.N, win0_5.index t 0 = t.val / 14 ∧ win0_5.index t 1 = 0)

/-- Within a row of points the block of rows stays the same. -/
theorem xb_prev (c : Dev nD) (t : Fin cfg0.N) (h : t.val % 14 ≠ 0) : xb m c (prev t) = xb m c t := by
  funext y
  refine congrArg (V m c main_arg5) (Shape.idx_ext₂ ?_ ?_)
  · show win0_5.index (prev t) 0 * 1024 + 1 * (y 0).val = win0_5.index t 0 * 1024 + 1 * (y 0).val
    rw [(idx5 (prev t)).1, (idx5 t).1]
    have : (t.val - 1) / 14 = t.val / 14 := by omega
    show (t.val - 1) / 14 * 1024 + _ = _
    rw [this]
  · show win0_5.index (prev t) 1 * 1792 + 1 * (y 1).val = win0_5.index t 1 * 1792 + 1 * (y 1).val
    rw [(idx5 (prev t)).2, (idx5 t).2]

/-- What holds between points: before the first, what the launch hands over; then the carried buffer holds the repeated row scales of the
block of rows of the point before. -/
def carried (c : Dev nD) (t : Fin (cfg0.N + 1)) : sProp 𝕄 :=
  if h : t.val = 0 then Pipeline.ΦA spec0 c
  else iprop(iprop(owns (c : Thread nD τ) scM fullShare (wideB (xb m c ⟨t.val - 1, by have := t.isLt; omega⟩))) ∗ (∃ r, prngReg c r))

/-- What the launch hands over allows the carried buffer to hold anything. -/
theorem carried_forget (c : Dev nD) (t : Fin (cfg0.N + 1)) : carried m c t ⊢ (Pipeline.ΦA spec0 c : sProp 𝕄) := by
  unfold carried
  split
  · exact .rfl
  · rw [PhiA_eq]
    iintro ⟨H, Hg⟩
    isplitl [H]
    · iexists _; iexact H
    iexact Hg

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yb m c t
    | ⟨9, _⟩ => codesB (xb m c t)
    | ⟨10, _⟩ => scalesB (xb m c t)
  Φ t := carried m c t
  q _ := fullShare
  owed _ := 0

/-- The arrays are as the region finds them. -/
theorem A_eq (c : Dev nD) (w : Fin cfg0.W) : (dats m 0 c).A w = V m c (Pipeline.arrRef spec0 w) := by
  dsimp only [dats]

/-! Each input's buffer holds its block at every point. -/
theorem before0 (c : Dev nD) (t : Fin cfg0.N) (d) : (dats m 0 c).before 0 t d = iblk m c 0 t :=
  before0_0_of m (dats m 0 c) (A_eq m c 0) (fun t => by dsimp only [dats]) t d
/-- What window 1 stages before the body is its block of the argument. -/
theorem before1 (c : Dev nD) (t : Fin cfg0.N) (d) : (dats m 0 c).before 1 t d = iblk m c 1 t :=
  before0_1_of m (dats m 0 c) (A_eq m c 1) (fun t => by dsimp only [dats]) t d
/-- What window 2 stages before the body is its block of the argument. -/
theorem before2 (c : Dev nD) (t : Fin cfg0.N) (d) : (dats m 0 c).before 2 t d = iblk m c 2 t :=
  before0_2_of m (dats m 0 c) (A_eq m c 2) (fun t => by dsimp only [dats]) t d
/-- What window 3 stages before the body is its block of the argument. -/
theorem before3 (c : Dev nD) (t : Fin cfg0.N) (d) : (dats m 0 c).before 3 t d = iblk m c 3 t :=
  before0_3_of m (dats m 0 c) (A_eq m c 3) (fun t => by dsimp only [dats]) t d
/-- What window 4 stages before the body is its block of the argument. -/
theorem before4 (c : Dev nD) (t : Fin cfg0.N) (d) : (dats m 0 c).before 4 t d = iblk m c 4 t :=
  before0_4_of m (dats m 0 c) (A_eq m c 4) (fun t => by dsimp only [dats]) t d
/-- What window 5 stages before the body is its block of the argument. -/
theorem before5 (c : Dev nD) (t : Fin cfg0.N) (d) : (dats m 0 c).before 5 t d = iblk m c 5 t :=
  before0_5_of m (dats m 0 c) (A_eq m c 5) (fun t => by dsimp only [dats]) t d
/-- What window 6 stages before the body is its block of the argument. -/
theorem before6 (c : Dev nD) (t : Fin cfg0.N) (d) : (dats m 0 c).before 6 t d = iblk m c 6 t :=
  before0_6_of m (dats m 0 c) (A_eq m c 6) (fun t => by dsimp only [dats]) t d
/-- What window 7 stages before the body is its block of the argument. -/
theorem before7 (c : Dev nD) (t : Fin cfg0.N) (d) : (dats m 0 c).before 7 t d = iblk m c 7 t :=
  before0_7_of m (dats m 0 c) (A_eq m c 7) (fun t => by dsimp only [dats]) t d

/-- What holds between points is `carried`. -/
theorem Phi_eq (c : Dev nD) (t : Fin (cfg0.N + 1)) : (dats m 0 c).Φ t = carried m c t := by dsimp only [dats]

/-- Before the first point nothing is known of the carried buffer. -/
theorem carried_zero (c : Dev nD) : carried m c 0 = Pipeline.ΦA spec0 c := by
  unfold carried; rw [dif_pos (show (0 : Fin (cfg0.N + 1)).val = 0 from rfl)]

/-- After a point the carried buffer holds the scales of its block of rows. -/
theorem carried_succ (c : Dev nD) (t : Fin cfg0.N) : carried m c t.succ =
    iprop(iprop(owns (c : Thread nD τ) scM fullShare (wideB (xb m c t))) ∗ (∃ r, prngReg c r)) := by
  unfold carried; rw [dif_neg (show ¬ t.succ.val = 0 from Nat.succ_ne_zero t.val)]; rfl

/-- Before a point that is not the first, it holds those of the point before. -/
theorem carried_cast (c : Dev nD) (t : Fin cfg0.N) (h : t.val ≠ 0) : carried m c t.castSucc =
    iprop(iprop(owns (c : Thread nD τ) scM fullShare (wideB (xb m c (prev t)))) ∗ (∃ r, prngReg c r)) := by
  unfold carried; rw [dif_neg (show ¬ t.castSucc.val = 0 from h)]; rfl

/-- What the body leaves of the sum. -/
theorem after8 (c : Dev nD) (t : Fin cfg0.N) : (dats m 0 c).after 8 t = yb m c t := by dsimp only [dats]
/-- What the body leaves of the codes. -/
theorem after9 (c : Dev nD) (t : Fin cfg0.N) : (dats m 0 c).after 9 t = codesB (xb m c t) := by dsimp only [dats]
/-- What the body leaves of the row scales. -/
theorem after10 (c : Dev nD) (t : Fin cfg0.N) : (dats m 0 c).after 10 t = scalesB (xb m c t) := by dsimp only [dats]

/-- The two outputs of the quantiser are left alone exactly at the points that do not quantise. -/
theorem idle9 (t : Fin cfg0.N) : cfg0.idle 9 (grid0.coords t) = true ↔ t.val % 14 ≠ 0 := by
  rw [Ne, ← cond_iff t]
  show (!(k0_cond1 (grid0.coords t) == 1#1)) = true ↔ _
  simp
/-- The row scales, too, are left alone except at the first point of a row. -/
theorem idle10 (t : Fin cfg0.N) : cfg0.idle 10 (grid0.coords t) = true ↔ t.val % 14 ≠ 0 := idle9 t

/-- A point that does not quantise finds the codes of its block of rows. -/
theorem before9 (c : Dev nD) : ∀ (n : Nat) (hn : n < cfg0.N) (_ : n % 14 ≠ 0) (d), (dats m 0 c).before 9 ⟨n, hn⟩ d = codesB (xb m c ⟨n, hn⟩)
  | 0, _, h, _ => absurd rfl h
  | n + 1, hn, h, d => by
    have hn' : n < cfg0.N := by omega
    have hf : (cfg0.win 9).flush ⟨n, hn'⟩ = false := Bool.eq_false_iff.mpr fun e => by have := (flush0_9 _).mp e; dsimp only at this; omega
    have e := (dats m 0 c).before_of_pos 9 ⟨n + 1, hn⟩ (by dsimp only; omega) ((cfg0.win 9).fetch_out rfl _) d
    rw [e]
    show (if (cfg0.win 9).flush ⟨n, hn'⟩ = true then d else (dats m 0 c).left 9 ⟨n, hn'⟩ d) = _
    rw [hf, if_neg Bool.false_ne_true, ← xb_prev m c ⟨n + 1, hn⟩ h]
    unfold Dat.left
    by_cases h0 : n % 14 = 0
    · rw [show cfg0.idle 9 (cfg0.grid.coords ⟨n, hn'⟩) = false from Bool.eq_false_iff.mpr fun e => (idle9 ⟨n, hn'⟩).mp e h0]
      dsimp only
      unfold Dat.kept; dsimp only [dats]; rfl
    · rw [show cfg0.idle 9 (cfg0.grid.coords ⟨n, hn'⟩) = true from (idle9 ⟨n, hn'⟩).mpr h0]
      exact before9 c n hn' h0 d

/-- A point that does not quantise finds the row scales of its block of rows. -/
theorem before10 (c : Dev nD) : ∀ (n : Nat) (hn : n < cfg0.N) (_ : n % 14 ≠ 0) (d), (dats m 0 c).before 10 ⟨n, hn⟩ d = scalesB (xb m c ⟨n, hn⟩)
  | 0, _, h, _ => absurd rfl h
  | n + 1, hn, h, d => by
    have hn' : n < cfg0.N := by omega
    have hf : (cfg0.win 10).flush ⟨n, hn'⟩ = false := Bool.eq_false_iff.mpr fun e => by have := (flush0_10 _).mp e; dsimp only at this; omega
    have e := (dats m 0 c).before_of_pos 10 ⟨n + 1, hn⟩ (by dsimp only; omega) ((cfg0.win 10).fetch_out rfl _) d
    rw [e]
    show (if (cfg0.win 10).flush ⟨n, hn'⟩ = true then d else (dats m 0 c).left 10 ⟨n, hn'⟩ d) = _
    rw [hf, if_neg Bool.false_ne_true, ← xb_prev m c ⟨n + 1, hn⟩ h]
    unfold Dat.left
    by_cases h0 : n % 14 = 0
    · rw [show cfg0.idle 10 (cfg0.grid.coords ⟨n, hn'⟩) = false from Bool.eq_false_iff.mpr fun e => (idle10 ⟨n, hn'⟩).mp e h0]
      dsimp only
      unfold Dat.kept; dsimp only [dats]; rfl
    · rw [show cfg0.idle 10 (cfg0.grid.coords ⟨n, hn'⟩) = true from (idle10 ⟨n, hn'⟩).mpr h0]
      exact before10 c n hn' h0 d

/-! What the body must leave in each window's buffer, from what it does leave. -/
theorem leaves0 (c : Dev nD) (t : Fin cfg0.N) : owns (c : Thread nD τ) (ms0 t) fullShare (iblk m c 0 t) ⊢ ((dats m 0 c).leavesExact 0 t : sProp 𝕄) := by
  unfold Dat.leavesExact; dsimp only [dats]; exact .rfl
/-- Window 1's buffer, as the body leaves it. -/
theorem leaves1 (c : Dev nD) (t : Fin cfg0.N) : owns (c : Thread nD τ) (ms1 t) fullShare (iblk m c 1 t) ⊢ ((dats m 0 c).leavesExact 1 t : sProp 𝕄) := by
  unfold Dat.leavesExact; dsimp only [dats]; exact .rfl
/-- Window 2's buffer, as the body leaves it. -/
theorem leaves2 (c : Dev nD) (t : Fin cfg0.N) : owns (c : Thread nD τ) (ms2 t) fullShare (iblk m c 2 t) ⊢ ((dats m 0 c).leavesExact 2 t : sProp 𝕄) := by
  unfold Dat.leavesExact; dsimp only [dats]; exact .rfl
/-- Window 3's buffer, as the body leaves it. -/
theorem leaves3 (c : Dev nD) (t : Fin cfg0.N) : owns (c : Thread nD τ) (ms3 t) fullShare (iblk m c 3 t) ⊢ ((dats m 0 c).leavesExact 3 t : sProp 𝕄) := by
  unfold Dat.leavesExact; dsimp only [dats]; exact .rfl
/-- Window 4's buffer, as the body leaves it. -/
theorem leaves4 (c : Dev nD) (t : Fin cfg0.N) : owns (c : Thread nD τ) (ms4 t) fullShare (iblk m c 4 t) ⊢ ((dats m 0 c).leavesExact 4 t : sProp 𝕄) := by
  unfold Dat.leavesExact; dsimp only [dats]; exact .rfl
/-- Window 5's buffer, as the body leaves it. -/
theorem leaves5 (c : Dev nD) (t : Fin cfg0.N) : owns (c : Thread nD τ) (ms5 t) fullShare (iblk m c 5 t) ⊢ ((dats m 0 c).leavesExact 5 t : sProp 𝕄) := by
  unfold Dat.leavesExact; dsimp only [dats]; exact .rfl
/-- Window 6's buffer, as the body leaves it. -/
theorem leaves6 (c : Dev nD) (t : Fin cfg0.N) : owns (c : Thread nD τ) (ms6 t) fullShare (iblk m c 6 t) ⊢ ((dats m 0 c).leavesExact 6 t : sProp 𝕄) := by
  unfold Dat.leavesExact; dsimp only [dats]; exact .rfl
/-- Window 7's buffer, as the body leaves it. -/
theorem leaves7 (c : Dev nD) (t : Fin cfg0.N) : owns (c : Thread nD τ) (ms7 t) fullShare (iblk m c 7 t) ⊢ ((dats m 0 c).leavesExact 7 t : sProp 𝕄) := by
  unfold Dat.leavesExact; dsimp only [dats]; exact .rfl
/-- Window 8's buffer, as the body leaves it. -/
theorem leaves8 (c : Dev nD) (t : Fin cfg0.N) : owns (c : Thread nD τ) (ms8 t) fullShare (yb m c t) ⊢ ((dats m 0 c).leavesExact 8 t : sProp 𝕄) := by
  unfold Dat.leavesExact; dsimp only [dats]; exact .rfl
/-- Window 9's buffer, as the body leaves it. -/
theorem leaves9 (c : Dev nD) (t : Fin cfg0.N) : owns (c : Thread nD τ) (ms9 t) fullShare (codesB (xb m c t)) ⊢ ((dats m 0 c).leavesExact 9 t : sProp 𝕄) := by
  unfold Dat.leavesExact
  rw [after9]
  cases hi : cfg0.idle 9 (cfg0.grid.coords t)
  · exact .rfl
  · cases hf : (cfg0.win 9).flush t
    · dsimp only
      iintro H
      iexists (codesB (xb m c t))
      rw [before9 m c t.val t.isLt ((idle9 t).mp hi)]
      iexact H
    · exact .rfl
/-- Window 10's buffer, as the body leaves it. -/
theorem leaves10 (c : Dev nD) (t : Fin cfg0.N) : owns (c : Thread nD τ) (ms10 t) fullShare (scalesB (xb m c t)) ⊢ ((dats m 0 c).leavesExact 10 t : sProp 𝕄) := by
  unfold Dat.leavesExact
  rw [after10]
  cases hi : cfg0.idle 10 (cfg0.grid.coords t)
  · exact .rfl
  · cases hf : (cfg0.win 10).flush t
    · dsimp only
      iintro H
      iexists (scalesB (xb m c t))
      rw [before10 m c t.val t.isLt ((idle10 t).mp hi)]
      iexact H
    · exact .rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    Phi_eq m c t.castSucc, Phi_eq m c t.succ, carried_succ m c t]
  by_cases h0 : t.val % 14 = 0
  · refine (sep_mono (carried_forget m c t.castSucc) .rfl).trans ?_
    rw [PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_quantise c (grid0.coords t) _ _ _ _ _ _ _ _ _ _ _ _ _ _ _ _ _ _ _ _ _ _ _ _ ((cond_iff t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iapply (leaves0 m c t); iexact H0
    isplitl [H1]; · iapply (leaves1 m c t); iexact H1
    isplitl [H2]; · iapply (leaves2 m c t); iexact H2
    isplitl [H3]; · iapply (leaves3 m c t); iexact H3
    isplitl [H4]; · iapply (leaves4 m c t); iexact H4
    isplitl [H5]; · iapply (leaves5 m c t); iexact H5
    isplitl [H6]; · iapply (leaves6 m c t); iexact H6
    isplitl [H7]; · iapply (leaves7 m c t); iexact H7
    isplitl [H8]; · iapply (leaves8 m c t); iexact H8
    isplitl [H9]; · iapply (leaves9 m c t); iexact H9
    iapply (leaves10 m c t); iexact H10
  · have ht : t.castSucc.val ≠ 0 := fun e => h0 (by rw [show t.val = 0 from e])
    rw [carried_cast m c t ht,
      xb_prev m c t h0]
    simp only [before9 m c t.val t.isLt h0, before10 m c t.val t.isLt h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_keep c (grid0.coords t) _ _ _ _ _ _ _ _ _ _ _ _ _ _ _ _ _ _ _ _ _ _ _ _ (fun h => h0 ((cond_iff t).mp h)) (iblk m c 0 t) (iblk m c 1 t) (iblk m c 2 t) (iblk m c 3 t) (iblk m c 4 t) (iblk m c 5 t) (iblk m c 6 t) (iblk m c 7 t) (codesB (xb m c t)) (scalesB (xb m c t)) (wideB (xb m c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iapply (leaves0 m c t); iexact H0
    isplitl [H1]; · iapply (leaves1 m c t); iexact H1
    isplitl [H2]; · iapply (leaves2 m c t); iexact H2
    isplitl [H3]; · iapply (leaves3 m c t); iexact H3
    isplitl [H4]; · iapply (leaves4 m c t); iexact H4
    isplitl [H5]; · iapply (leaves5 m c t); iexact H5
    isplitl [H6]; · iapply (leaves6 m c t); iexact H6
    isplitl [H7]; · iapply (leaves7 m c t); iexact H7
    isplitl [H8]; · iapply (leaves8 m c t); iexact H8
    isplitl [H9]; · iapply (leaves9 m c t); iexact H9
    iapply (leaves10 m c t); iexact H10

/-- The body as the table of functions has it. -/
theorem body_row (t : Fin cfg0.N) : defs₀ (F := F) .tc cfg0.body (cfg0.bodyArgs t (cfg0.slots t)) = bodyAt0 t := by
  unfold defs₀; rw [Defs.onTc_tc]

/-- The body does what the launch asks of it, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: it ends, every array ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.of_eq ((Phi_eq m c 0).trans (carried_zero m c)).symm)
    (hout := fun c => (Entails.of_eq (Phi_eq m c _)).trans (carried_forget m c _))

/-- The run leaves every array holding what the windows write back to it. -/
theorem run_main : θ_run defs (onTc (τ := τ) (main (F := F))) (s₀ m ρ) (Pipeline.FramePost cfgs (dats m) 0 (V m)) :=
  (θ_run defs _ _).mono (fun _ h => h.1) (run_main_quiescent m ρ)

/-- The run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.DownKernel
-- ==== Proof.DownBits.lean ====
module

public import proofs.«01_k».proof.Proof.DownFrame
public import proofs.«01_k».proof.Proof.Gen.Down.Frame
public import Idealize.ShloMosaic.PureOps.BitExact

@[expose] public section

set_option maxRecDepth 16384

/-! The machine program and the idealized one are the same program, read at two number systems, so the run proved for every number system is
a run of the machine program too. -/

namespace Cert.DownKernel

open Idealize.ShloMosaic Idealize.ShloMosaic.TcCoe Idealize.SL.Sem

/-- The two programs run the same body. -/
theorem bodies_eq : Cert.Down.defs₀ (F := Bits) = Cert.DownIdeal.defs₀ (F := Bits) := by
  unfold Cert.Down.defs₀ Cert.DownIdeal.defs₀
  refine congrArg Defs.onTc ?_
  funext b c
  match b, c with
  | 0, (t, s) => rfl

/-- The two programs run the same pipeline. -/
theorem defs_eq : Cert.Down.defs (F := Bits) = Cert.DownIdeal.defs (F := Bits) :=
  congrArg (fun d => Pipeline.defs (Cert.DownIdeal.pcfgs (F := Bits)) d) bodies_eq

/-- The two programs have the same main function. -/
theorem main_eq : Cert.Down.main (F := Bits) = Cert.DownIdeal.main (F := Bits) := rfl

/-- The machine program ends with the arguments unchanged and every semaphore counter at zero. -/
theorem frame_bits (m : (ℓ : Loc Cert.Down.nD Cert.Down.τ Cert.Down.sig) → Buf (Elt Bits) ℓ) (ρ : Dev Cert.Down.nD → PrngReg) :
    θ_run (Cert.Down.defs (F := Bits)) (onTc (τ := Cert.Down.τ) (Cert.Down.main (F := Bits))) ⟨m, fun _ => 0, ρ⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7))
      ∧ r.2.sem = fun _ => 0) := by
  have h := frame (F := Bits) m ρ
  have e := congrArg (fun d => θ_run d (onTc (τ := Cert.DownIdeal.τ) (Cert.DownIdeal.main (F := Bits))) ⟨m, fun _ => 0, ρ⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7))
      ∧ r.2.sem = fun _ => 0)) defs_eq
  exact e.mpr h

end Cert.DownKernel

end
-- ==== Proof.DownMath.lean ====
module

public import proofs.«01_k».proof.Proof.UpValue
public import proofs.«01_k».proof.Proof.DownFrame

@[expose] public section

set_option maxRecDepth 16384

noncomputable section

open Idealize.ShloMosaic Idealize.ShloMosaic.TcCoe Idealize.SL.Sem
open Idealize.ShloMosaic.ValueIdx

/-! The row quantiser and the sum, as functions of extended reals. -/

namespace Cert.DownMath

open Cert.UpKernel (clip8 dot dot_congr)

/-- The largest absolute value of a row. -/
def rowMax {K : Nat} (v : Fin K → EReal) : EReal :=
  (Finset.univ : Finset (Fin K)).fold max (FloatOps.ofBits (F := Ideal) .f32 0xFF800000#32) fun k => max (v k) (-(v k))

/-- The scale of a row: its largest absolute value over 448, or 1 where that is zero. -/
def scaleOf {K : Nat} (v : Fin K → EReal) : EReal :=
  if Ideal.cmp .oeq (rowMax v) (Ideal.ofBits .f32 0x00000000#32) = 1#1 then Ideal.ofBits .f32 0x3F800000#32
  else Ideal.div (rowMax v) (Ideal.ofBits .f32 0x43E00000#32)

/-- An element of a row over the row's scale, clipped to the range of the 8-bit format. -/
def codeOf {K : Nat} (v : Fin K → EReal) (k : Fin K) : EReal := clip8 (Ideal.div (v k) (scaleOf v))

/-- Row `r` of an array. -/
abbrev rowOf {M K : Nat} (x : (⟨2, ![M, K]⟩ : Shape).Idx → EReal) (r : Fin M) : Fin K → EReal := fun k => x (ix2 r k)

/-- One element of the sum: the summand, the first product times its two scales, the second product times its row scale and its
column scale. -/
def sumOf (x p sh ws q s wus : EReal) : EReal := x + p * (sh * ws) + q * s * wus

/-- Every row's codes. -/
def codesOf {M K : Nat} (x : (⟨2, ![M, K]⟩ : Shape).Idx → EReal) (y : (⟨2, ![M, K]⟩ : Shape).Idx) : EReal := codeOf (rowOf x (y 0)) (y 1)

/-- Every row's scale. -/
def scalesOf {M K : Nat} (x : (⟨2, ![M, K]⟩ : Shape).Idx → EReal) (y : (⟨2, ![M, 1]⟩ : Shape).Idx) : EReal := scaleOf (rowOf x (y 0))

/-- The whole sum, from the summand, the two factors of the first product and its scales, the rows to quantise, the right factor of the
second product and its column scales. -/
def sumsOf {M K L N : Nat} (x : (⟨2, ![M, N]⟩ : Shape).Idx → EReal) (h : (⟨2, ![M, K]⟩ : Shape).Idx → EReal) (w : (⟨2, ![K, N]⟩ : Shape).Idx → EReal)
    (sh ws : EReal) (c : (⟨2, ![M, L]⟩ : Shape).Idx → EReal) (u : (⟨2, ![L, N]⟩ : Shape).Idx → EReal) (us : Fin N → EReal)
    (y : (⟨2, ![M, N]⟩ : Shape).Idx) : EReal :=
  sumOf (x y) (dot h w (y 0) (y 1)) sh ws (dot (codesOf c) u (y 0) (y 1)) (scaleOf (rowOf c (y 0))) (us (y 1))

/-- The maximum over a row, kept as a column, is the row's largest absolute value. -/
theorem rowMax_apply {R K : Nat} (v : FVec Ideal ⟨2, ![R, K]⟩ .f32) (h : Shape.Reduces ⟨2, ![R, K]⟩ [1] ⟨1, ![R]⟩)
    (hs : Shape.ShapeCasts ⟨1, ![R]⟩ ⟨2, ![R, 1]⟩) (hφ : FKind.Formats .f32) (hacc : (0xFF800000#32 : BitVec 32) = FKind.maximumf.neutral .f32 hφ) (r : Fin R) (q : Fin 1) :
    shapeCast ⟨2, ![R, 1]⟩ (multiReduction .maximumf [1] ⟨1, ![R]⟩ (absf v) 0xFF800000#32 h hφ hacc) hs (ix2 r q) = rowMax (rowOf v r) := by
  rw [shapeCast_apply _ hs (ix2 r q) (ix1 r) (by
    rw [Shape.rowMajor_val_one, Shape.rowMajor_val_two]
    have hq : q.val = 0 := by omega
    show r.val = r.val * 1 + q.val
    omega)]
  refine (Ideal.multiReduction_maximumf_single (absf v) _ h hφ hacc (ix1 r)).trans ?_
  unfold rowMax
  congr 1
  funext k
  have e : h.lift (ix1 r) k = (ix2 r (⟨k.val, k.isLt⟩ : Fin K) : (⟨2, ![R, K]⟩ : Shape).Idx) := Shape.idx_ext₂ rfl rfl
  show max (v (h.lift (ix1 r) k)) (-(v (h.lift (ix1 r) k))) = _
  rw [e]
  rfl

end Cert.DownMath

namespace Cert.DownKernel

open Cert.DownIdeal Cert.DownIdeal.Gen Cert.DownMath
open Cert.UpKernel (clip8 dot dot_congr)

/-- The scale the body computes for a row of a group. -/
theorem pay2_apply (v : Vec Ideal S32x1792 .f32) (r : Fin 32) (q : Fin 1) : k0_pay2 (F := Ideal) v (ix2 r q) = scaleOf (rowOf v r) := by
  have e := rowMax_apply v reduces_S32x1792_S32 shapeCasts_S32_S32x1 (.inl rfl) rfl r q
  unfold k0_pay2 scaleOf
  rw [← e]
  dsimp only
  generalize shapeCast S32x1 _ _ = X
  rfl

/-- The codes the body computes for a row of a group. -/
theorem pay3_apply (v : Vec Ideal S32x1792 .f32) (r : Fin 32) (k : Fin 1792) : k0_pay3 (F := Ideal) v (ix2 r k) = codeOf (rowOf v r) k := by
  unfold k0_pay3 codeOf clip8
  have e : broadcastTo S32x1792 (k0_pay2 (F := Ideal) v) broadcasts_S32x1_S32x1792 (ix2 r k) = scaleOf (rowOf v r) :=
    (broadcastTo_apply _ _ _ (ix2 r 0) fun a => by match a with | ⟨0, _⟩ => rfl | ⟨1, _⟩ => rfl).trans (pay2_apply v r 0)
  rw [← e]
  generalize broadcastTo S32x1792 _ _ = X
  rfl

/-- The repeated scale the body computes for a row of a group. -/
theorem pay4_apply (v : Vec Ideal S32x1792 .f32) (r : Fin 32) (q : Fin 128) : k0_pay4 (F := Ideal) v (ix2 r q) = scaleOf (rowOf v r) := by
  unfold k0_pay4
  simp only [shapeCast_self]
  exact (broadcastTo_apply _ _ _ (ix2 r 0) fun a => by match a with | ⟨0, _⟩ => rfl | ⟨1, _⟩ => rfl).trans (pay2_apply v r 0)

/-- Row `r` of a block is row `r % 32` of group `r / 32`. -/
theorem rows_row (x : Vec Ideal S1024x1792 .f32) (r : Fin 1024) :
    rowOf (rows x ⟨r.val / 32, by omega⟩) (⟨r.val % 32, by omega⟩ : Fin 32) = rowOf x r := by
  funext k
  exact congrArg x (Shape.idx_ext₂ (show 32 * (r.val / 32) + r.val % 32 = r.val by omega) rfl)

/-- The codes of a block of rows. -/
theorem codesB_apply (x : Vec Ideal S1024x1792 .f32) (r : Fin 1024) (k : Fin 1792) : codesB x (ix2 r k) = codeOf (rowOf x r) k := by
  unfold codesB tiled
  rw [← rows_row x r]
  exact pay3_apply _ _ _

/-- The scales of a block of rows. -/
theorem scalesB_apply (x : Vec Ideal S1024x1792 .f32) (r : Fin 1024) (q : Fin 1) : scalesB x (ix2 r q) = scaleOf (rowOf x r) := by
  unfold scalesB tiled
  rw [← rows_row x r]
  exact pay2_apply _ _ _

/-- The repeated scales of a block of rows. -/
theorem wideB_apply (x : Vec Ideal S1024x1792 .f32) (r : Fin 1024) (q : Fin 128) : wideB x (ix2 r q) = scaleOf (rowOf x r) := by
  unfold wideB tiled
  rw [← rows_row x r]
  exact pay4_apply _ _ _

/-- What a store of 128 columns of the sum holds: both products are computed over 256 columns, and the 128 from column `o` on are kept. -/
def pay (o : Nat) (ho : S1024x256.Slices ![0, o] S1024x128) (sh ws : EReal) (h : FVec Ideal S1024x9216 .fp8e4m3) (w : FVec Ideal S9216x256 .fp8e4m3)
    (a : FVec Ideal S1024x1792 .fp8e4m3) (u : FVec Ideal S1792x256 .fp8e4m3) (s : FVec Ideal S1024x128 .f32) (us : FVec Ideal S1x128 .f32)
    (x : FVec Ideal S1024x128 .bf16) : FVec Ideal S1024x128 .bf16 :=
  truncf .bf16 (addf (addf (extf .f32 x bitsLt_bf16_f32)
      (extractStridedSlice S1024x128 ![0, o] (mulf (matmul dot_S1024x9216_S9216x256_S1024x256_1_0_0_1_n_n none h w (constant S1024x256 .f32 0x00000000#32))
        (broadcast S1024x256 (sh * ws))) ho))
    (mulf (mulf (extractStridedSlice S1024x128 ![0, o] (matmul dot_S1024x1792_S1792x256_S1024x256_1_0_0_1_n_n none a u (constant S1024x256 .f32 0x00000000#32)) ho) s)
      (broadcastTo S1024x128 us broadcasts_S1x128_S1024x128))) bitsLt_bf16_f32

/-- It is the sum, element by element. -/
theorem pay_apply (o : Nat) (ho : S1024x256.Slices ![0, o] S1024x128) (sh ws : EReal) (h : FVec Ideal S1024x9216 .fp8e4m3) (w : FVec Ideal S9216x256 .fp8e4m3)
    (a : FVec Ideal S1024x1792 .fp8e4m3) (u : FVec Ideal S1792x256 .fp8e4m3) (s : FVec Ideal S1024x128 .f32) (us : FVec Ideal S1x128 .f32)
    (x : FVec Ideal S1024x128 .bf16) (r : Fin 1024) (j : Fin 128) (k : Fin 256) (hk : k.val = o + j.val) :
    pay o ho sh ws h w a u s us x (ix2 r j) = sumOf (x (ix2 r j)) (dot h w r k) sh ws (dot a u r k) (s (ix2 r j)) (us (ix2 0 j)) := by
  have e1 : FloatOps.matmul (DotDims.plain 1024 9216 256) none h w (constant S1024x256 .f32 0x00000000#32) (ix2 r k) = dot h w r k :=
    Ideal.matmul_plain_apply (M := 1024) (K := 9216) (N := 256) none h w (constant S1024x256 .f32 0x00000000#32) r k
  have e2 : FloatOps.matmul (DotDims.plain 1024 1792 256) none a u (constant S1024x256 .f32 0x00000000#32) (ix2 r k) = dot a u r k :=
    Ideal.matmul_plain_apply (M := 1024) (K := 1792) (N := 256) none a u (constant S1024x256 .f32 0x00000000#32) r k
  have e3 : broadcastTo S1024x128 us broadcasts_S1x128_S1024x128 (ix2 r j) = us (ix2 0 j) :=
    broadcastTo_apply _ _ _ _ fun a => by match a with | ⟨0, _⟩ => rfl | ⟨1, _⟩ => rfl
  have e4 : ∀ v : FVec Ideal S1024x256 .f32, extractStridedSlice S1024x128 ![0, o] v ho (ix2 r j) = v (ix2 r k) := fun v =>
    extractStridedSlice_apply _ _ _ _ _ fun a => by
      match a with
      | ⟨0, _⟩ => show r.val = 0 + r.val; omega
      | ⟨1, _⟩ => exact hk
  unfold sumOf
  rw [← e1, ← e2, ← e3]
  have f1 := e4 (mulf (matmul dot_S1024x9216_S9216x256_S1024x256_1_0_0_1_n_n none h w (constant S1024x256 .f32 0x00000000#32)) (broadcast S1024x256 (sh * ws)))
  have f2 := e4 (matmul dot_S1024x1792_S1792x256_S1024x256_1_0_0_1_n_n none a u (constant S1024x256 .f32 0x00000000#32))
  refine Eq.trans (b := x (ix2 r j) + extractStridedSlice S1024x128 ![0, o] (mulf (matmul dot_S1024x9216_S9216x256_S1024x256_1_0_0_1_n_n none h w (constant S1024x256 .f32 0x00000000#32)) (broadcast S1024x256 (sh * ws))) ho (ix2 r j)
    + extractStridedSlice S1024x128 ![0, o] (matmul dot_S1024x1792_S1792x256_S1024x256_1_0_0_1_n_n none a u (constant S1024x256 .f32 0x00000000#32)) ho (ix2 r j) * s (ix2 r j) * broadcastTo S1024x128 us broadcasts_S1x128_S1024x128 (ix2 r j)) rfl ?_
  rw [f1, f2]
  rfl

/-- The four stores are of this form. -/
theorem pay8_eq (sh ws h w a u s us x) : k0_pay8 (F := Ideal) sh ws h w a u s us x = pay 0 slices_S1024x256_o0_0_S1024x128 sh ws h w a u s us x := by
  unfold k0_pay8 k0_pay7 k0_pay6 pay; simp only [shapeCast_self]; rfl
/-- The second store. -/
theorem pay10_eq (sh ws h w a u s us x) : k0_pay10 (F := Ideal) (k0_pay6 sh ws h w) (k0_pay9 a u s) us x = pay 128 slices_S1024x256_o0_128_S1024x128 sh ws h w a u s us x := by
  unfold k0_pay10 k0_pay9 k0_pay7 k0_pay6 pay; simp only [shapeCast_self]; rfl
/-- The third store. -/
theorem pay13_eq (sh ws h w a u s us x) : k0_pay13 (F := Ideal) (k0_pay5 sh ws) h w a u s us x = pay 0 slices_S1024x256_o0_0_S1024x128 sh ws h w a u s us x := by
  unfold k0_pay13 k0_pay12 k0_pay11 pay; simp only [shapeCast_self]; rfl
/-- The fourth store. -/
theorem pay1_eq (sh ws h w a u s us x) : k0_pay1 (F := Ideal) (k0_pay11 (k0_pay5 sh ws) h w) (k0_pay12 a u) s us x = pay 128 slices_S1024x256_o0_128_S1024x128 sh ws h w a u s us x := by
  unfold k0_pay1 k0_pay12 k0_pay11 pay; simp only [shapeCast_self]; rfl

/-- The block of the sum, as a function of what it is computed from; `sc` gives the row scales. -/
def blockSum (sh ws : EReal) (x : S1024x512.Idx → EReal) (h : S1024x9216.Idx → EReal) (w : S9216x512.Idx → EReal) (a : S1024x1792.Idx → EReal)
    (u : S1792x512.Idx → EReal) (us : S1x512.Idx → EReal) (sc : Fin 1024 → EReal) (y : S1024x512.Idx) : EReal :=
  sumOf (x y) (dot h w (y 0) (y 1)) sh ws (dot a u (y 0) (y 1)) (sc (y 0)) (us (ix2 0 (y 1)))

/-- A store of the 128 columns from column `c = b + o` on holds its columns of the block. -/
theorem piece_eq (b o c : Nat) (hc : c = b + o) (ho : S1024x256.Slices ![0, o] S1024x128)
    (hx : ∀ i : Fin 2, ![0, c] i + ![1024, 128] i ≤ S1024x512.size i) (hw : ∀ i : Fin 2, ![0, b] i + ![9216, 256] i ≤ S9216x512.size i)
    (hu : ∀ i : Fin 2, ![0, b] i + ![1792, 256] i ≤ S1792x512.size i) (hus : ∀ i : Fin 2, ![0, c] i + ![1, 128] i ≤ S1x512.size i)
    (sh ws : EReal) (x : Vec Ideal S1024x512 .bf16) (h : Vec Ideal S1024x9216 .fp8e4m3) (w : Vec Ideal S9216x512 .fp8e4m3) (a : Vec Ideal S1024x1792 .fp8e4m3)
    (u : Vec Ideal S1792x512 .fp8e4m3) (us : Vec Ideal S1x512 .f32) (s : Vec Ideal S1024x128 .f32) (sc : Fin 1024 → EReal)
    (hs : ∀ (r : Fin 1024) (j : Fin 128), s (ix2 r j) = sc r) (z : S1024x128.Idx) :
    pay o ho sh ws h (View.ld w (Rect.unit (s := S9216x512) ![0, b] ![9216, 256] hw)) a (View.ld u (Rect.unit (s := S1792x512) ![0, b] ![1792, 256] hu)) s
        (View.ld us (Rect.unit (s := S1x512) ![0, c] ![1, 128] hus)) (View.ld x (Rect.unit (s := S1024x512) ![0, c] ![1024, 128] hx)) z
      = blockSum sh ws x h w a u us sc ((Rect.unit (s := S1024x512) ![0, c] ![1024, 128] hx).emb z) := by
  obtain ⟨r, j, rfl⟩ : ∃ (r : Fin 1024) (j : Fin 128), z = ix2 r j := ⟨z 0, z 1, eq_ix2 z⟩
  have hk : o + j.val < 256 := by have := ho.2 ⟨1, by decide⟩; have := j.isLt; have h2 : o + 128 ≤ 256 := by simpa using ho.2 ⟨1, by decide⟩
                                  omega
  refine (pay_apply o ho sh ws h _ a _ s _ _ r j ⟨o + j.val, hk⟩ rfl).trans ?_
  unfold blockSum
  have hr : (Rect.unit (s := S1024x512) ![0, c] ![1024, 128] hx).emb (ix2 r j) 0 = r := Fin.ext (show 0 + 1 * r.val = r.val by omega)
  have hd1 : dot h (View.ld w (Rect.unit (s := S9216x512) ![0, b] ![9216, 256] hw)) r ⟨o + j.val, hk⟩
      = dot h w ((Rect.unit (s := S1024x512) ![0, c] ![1024, 128] hx).emb (ix2 r j) 0) ((Rect.unit (s := S1024x512) ![0, c] ![1024, 128] hx).emb (ix2 r j) 1) := by
    refine dot_congr _ _ _ _ _ _ _ _ (fun k => by rw [hr]) (fun k => congrArg w ?_)
    exact Shape.idx_ext₂ (show 0 + 1 * k.val = k.val by omega) (show b + 1 * (o + j.val) = c + 1 * j.val by omega)
  have hd2 : dot a (View.ld u (Rect.unit (s := S1792x512) ![0, b] ![1792, 256] hu)) r ⟨o + j.val, hk⟩
      = dot a u ((Rect.unit (s := S1024x512) ![0, c] ![1024, 128] hx).emb (ix2 r j) 0) ((Rect.unit (s := S1024x512) ![0, c] ![1024, 128] hx).emb (ix2 r j) 1) := by
    refine dot_congr _ _ _ _ _ _ _ _ (fun k => by rw [hr]) (fun k => congrArg u ?_)
    exact Shape.idx_ext₂ (show 0 + 1 * k.val = k.val by omega) (show b + 1 * (o + j.val) = c + 1 * j.val by omega)
  have hus' : View.ld us (Rect.unit (s := S1x512) ![0, c] ![1, 128] hus) (ix2 0 j)
      = us (ix2 0 ((Rect.unit (s := S1024x512) ![0, c] ![1024, 128] hx).emb (ix2 r j) 1)) :=
    congrArg us (Shape.idx_ext₂ rfl rfl)
  rw [hd1, hd2, hus', hs, hr]
  rfl

/-- The block of the sum that a point leaves. -/
theorem outB_apply (sh ws : EReal) (x : Vec Ideal S1024x512 .bf16) (h : Vec Ideal S1024x9216 .fp8e4m3) (w : Vec Ideal S9216x512 .fp8e4m3) (a : Vec Ideal S1024x1792 .fp8e4m3)
    (u : Vec Ideal S1792x512 .fp8e4m3) (us : Vec Ideal S1x512 .f32) (s : Vec Ideal S1024x128 .f32) (sc : Fin 1024 → EReal)
    (hs : ∀ (r : Fin 1024) (j : Fin 128), s (ix2 r j) = sc r) (y : S1024x512.Idx) :
    outB (F := Ideal) sh ws x h w a u us s y = blockSum sh ws x h w a u us sc y := by
  have hc := cover4 (F := Ideal) (pay 128 slices_S1024x256_o0_128_S1024x128 sh ws h (View.ld w (Rect.unit (s := S9216x512) ![0, 256] S9216x256.size inb_S9216x512_S9216x256_0_256)) a (View.ld u (Rect.unit (s := S1792x512) ![0, 256] S1792x256.size inb_S1792x512_S1792x256_0_256)) s (View.ld us (Rect.unit (s := S1x512) ![0, 384] S1x128.size inb_S1x512_S1x128_0_384)) (View.ld x (Rect.unit (s := S1024x512) ![0, 384] S1024x128.size inb_S1024x512_S1024x128_0_384)))
    (pay 0 slices_S1024x256_o0_0_S1024x128 sh ws h (View.ld w (Rect.unit (s := S9216x512) ![0, 256] S9216x256.size inb_S9216x512_S9216x256_0_256)) a (View.ld u (Rect.unit (s := S1792x512) ![0, 256] S1792x256.size inb_S1792x512_S1792x256_0_256)) s (View.ld us (Rect.unit (s := S1x512) ![0, 256] S1x128.size inb_S1x512_S1x128_0_256)) (View.ld x (Rect.unit (s := S1024x512) ![0, 256] S1024x128.size inb_S1024x512_S1024x128_0_256)))
    (pay 128 slices_S1024x256_o0_128_S1024x128 sh ws h (View.ld w (Rect.unit (s := S9216x512) ![0, 0] S9216x256.size inb_S9216x512_S9216x256_0_0)) a (View.ld u (Rect.unit (s := S1792x512) ![0, 0] S1792x256.size inb_S1792x512_S1792x256_0_0)) s (View.ld us (Rect.unit (s := S1x512) ![0, 128] S1x128.size inb_S1x512_S1x128_0_128)) (View.ld x (Rect.unit (s := S1024x512) ![0, 128] S1024x128.size inb_S1024x512_S1024x128_0_128)))
    (pay 0 slices_S1024x256_o0_0_S1024x128 sh ws h (View.ld w (Rect.unit (s := S9216x512) ![0, 0] S9216x256.size inb_S9216x512_S9216x256_0_0)) a (View.ld u (Rect.unit (s := S1792x512) ![0, 0] S1792x256.size inb_S1792x512_S1792x256_0_0)) s (View.ld us (Rect.unit (s := S1x512) ![0, 0] S1x128.size inb_S1x512_S1x128_0_0)) (View.ld x (Rect.unit (s := S1024x512) ![0, 0] S1024x128.size inb_S1024x512_S1024x128_0_0))) y
  unfold outB outL
  rw [pay8_eq, pay10_eq, pay13_eq, pay1_eq]
  refine View.canon_apply_of_pieces (blockSum sh ws x h w a u us sc) _ ?_ y hc
  simp only [List.forall_mem_cons]
  exact ⟨piece_eq 256 128 384 rfl _ _ _ _ _ _ _ _ _ _ _ _ _ _ _ hs, piece_eq 256 0 256 rfl _ _ _ _ _ _ _ _ _ _ _ _ _ _ _ hs,
    piece_eq 0 128 128 rfl _ _ _ _ _ _ _ _ _ _ _ _ _ _ _ hs, piece_eq 0 0 0 rfl _ _ _ _ _ _ _ _ _ _ _ _ _ _ _ hs, fun p hp => absurd hp List.not_mem_nil⟩

end Cert.DownKernel

end
-- ==== Proof.DownValue.lean ====
module

public import proofs.«01_k».proof.Proof.DownMath
public import proofs.«01_k».proof.Proof.Gen.RefDownIdeal.Value
public import proofs.«01_k».proof.Defs

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.DownKernel

open Cert.DownIdeal Cert.DownIdeal.Gen Cert.DownMath
open Cert.UpKernel (clip8 dot dot_congr)

variable (m : (ℓ : Loc nD τ sig) → Buf (Elt Ideal) ℓ) (ρ : Dev nD → PrngReg)

/-- What the first result is shown to hold: the sum. -/
abbrev sums (c : Dev nD) : Buf (Elt Ideal) ((c : Thread nD τ).loc main_v1_0) :=
  sumsOf (M := 4096) (K := 9216) (L := 1792) (N := 7168) (m ((c : Thread nD τ).loc main_arg0)) (m ((c : Thread nD τ).loc main_arg1)) (m ((c : Thread nD τ).loc main_arg2)) (m ((c : Thread nD τ).loc main_arg3) i0) (m ((c : Thread nD τ).loc main_arg4) i0)
    (m ((c : Thread nD τ).loc main_arg5)) (m ((c : Thread nD τ).loc main_arg6)) fun q => m ((c : Thread nD τ).loc main_arg7) (ix1 q)

/-- What the second result is shown to hold: the codes. -/
abbrev codes (c : Dev nD) : Buf (Elt Ideal) ((c : Thread nD τ).loc main_v1_1) := codesOf (M := 4096) (K := 1792) (m ((c : Thread nD τ).loc main_arg5))

/-- What the third result is shown to hold: the row scales. -/
abbrev scales (c : Dev nD) : Buf (Elt Ideal) ((c : Thread nD τ).loc main_v1_2) := scalesOf (M := 4096) (K := 1792) (m ((c : Thread nD τ).loc main_arg5))

/-- The host reshape of the column scales to one row keeps them. -/
theorem V_v0 (c : Dev nD) (q : Fin 7168) : V m c main_v0 (ix2 0 q) = m ((c : Thread nD τ).loc main_arg7) (ix1 q) := by
  show StableHlo.after hostOps0 (fun b => m (c, b)) (Proc.devRef .tc main_v0) (ix2 0 q) = _
  simp only [hostOps0, StableHlo.after_cons, StableHlo.after_nil]
  rw [StableHlo.reshape_result']
  exact shapeCast_apply (s := S7168) (t := S1x7168) (m ((c : Thread nD τ).loc main_arg7)) shapeCasts_S7168_S1x7168 (ix2 0 q) (ix1 q) (by
    rw [Shape.rowMajor_val_one, Shape.rowMajor_val_two]
    show q.val = 0 * 7168 + q.val
    omega)

/-- How the blocks move: with the row of points, with the point in its row, or not at all. -/
theorem idx_facts : ∀ t : Fin cfg0.N, (win0_2.index t 0 = t.val / 14 ∧ win0_2.index t 1 = t.val % 14) ∧ (win0_3.index t 0 = t.val / 14 ∧ win0_3.index t 1 = 0)
    ∧ (win0_4.index t 0 = 0 ∧ win0_4.index t 1 = t.val % 14) ∧ (win0_6.index t 0 = 0 ∧ win0_6.index t 1 = t.val % 14) ∧ (win0_7.index t 0 = 0 ∧ win0_7.index t 1 = t.val % 14)
    ∧ (win0_8.index t 0 = t.val / 14 ∧ win0_8.index t 1 = t.val % 14) ∧ (win0_9.index t 0 = t.val / 14 ∧ win0_9.index t 1 = 0) ∧ (win0_10.index t 0 = t.val / 14 ∧ win0_10.index t 1 = 0) :=
  (by decide +kernel : ∀ t : Fin grid0.N, (win0_2.index t 0 = t.val / 14 ∧ win0_2.index t 1 = t.val % 14) ∧ (win0_3.index t 0 = t.val / 14 ∧ win0_3.index t 1 = 0)
    ∧ (win0_4.index t 0 = 0 ∧ win0_4.index t 1 = t.val % 14) ∧ (win0_6.index t 0 = 0 ∧ win0_6.index t 1 = t.val % 14) ∧ (win0_7.index t 0 = 0 ∧ win0_7.index t 1 = t.val % 14)
    ∧ (win0_8.index t 0 = t.val / 14 ∧ win0_8.index t 1 = t.val % 14) ∧ (win0_9.index t 0 = t.val / 14 ∧ win0_9.index t 1 = 0) ∧ (win0_10.index t 0 = t.val / 14 ∧ win0_10.index t 1 = 0))

/-- There are 56 points. -/
theorem point_lt (t : Fin cfg0.N) : t.val < 56 := Nat.lt_of_lt_of_eq t.isLt N_0

/-- The row of the whole array that row `r` of a point's block is. -/
def row (t : Fin cfg0.N) (r : Fin 1024) : Fin 4096 := ⟨t.val / 14 * 1024 + r.val, by have := point_lt t; omega⟩
/-- The column of the whole array that column `q` of a point's block is. -/
def col (t : Fin cfg0.N) (q : Fin 512) : Fin 7168 := ⟨t.val % 14 * 512 + q.val, by omega⟩

/-- The summand's block. -/
theorem blk2 (c : Dev nD) (t : Fin cfg0.N) (r : Fin 1024) (q : Fin 512) : iblk m c 2 t (ix2 r q) = m ((c : Thread nD τ).loc main_arg0) (ix2 (row t r) (col t q)) := by
  refine (congrArg (V m c main_arg0) (Shape.idx_ext₂ ?_ ?_)).trans (congrFun (V_main_arg0 m c) _)
  · show win0_2.index t 0 * 1024 + 1 * r.val = t.val / 14 * 1024 + r.val
    rw [(idx_facts t).1.1]; rw [Nat.one_mul]
  · show win0_2.index t 1 * 512 + 1 * q.val = t.val % 14 * 512 + q.val
    rw [(idx_facts t).1.2]; rw [Nat.one_mul]

/-- The block of the first product's left factor. -/
theorem blk3 (c : Dev nD) (t : Fin cfg0.N) (r : Fin 1024) (k : Fin 9216) : iblk m c 3 t (ix2 r k) = m ((c : Thread nD τ).loc main_arg1) (ix2 (row t r) k) := by
  refine (congrArg (V m c main_arg1) (Shape.idx_ext₂ ?_ ?_)).trans (congrFun (V_main_arg1 m c) _)
  · show win0_3.index t 0 * 1024 + 1 * r.val = t.val / 14 * 1024 + r.val
    rw [(idx_facts t).2.1.1]; rw [Nat.one_mul]
  · show win0_3.index t 1 * 9216 + 1 * k.val = k.val
    rw [(idx_facts t).2.1.2]; omega

/-- The block of the first product's right factor. -/
theorem blk4 (c : Dev nD) (t : Fin cfg0.N) (k : Fin 9216) (q : Fin 512) : iblk m c 4 t (ix2 k q) = m ((c : Thread nD τ).loc main_arg2) (ix2 k (col t q)) := by
  refine (congrArg (V m c main_arg2) (Shape.idx_ext₂ ?_ ?_)).trans (congrFun (V_main_arg2 m c) _)
  · show win0_4.index t 0 * 9216 + 1 * k.val = k.val
    rw [(idx_facts t).2.2.1.1]; omega
  · show win0_4.index t 1 * 512 + 1 * q.val = t.val % 14 * 512 + q.val
    rw [(idx_facts t).2.2.1.2]; rw [Nat.one_mul]

/-- The block of rows to quantise. -/
theorem blk5 (c : Dev nD) (t : Fin cfg0.N) (r : Fin 1024) (k : Fin 1792) : iblk m c 5 t (ix2 r k) = m ((c : Thread nD τ).loc main_arg5) (ix2 (row t r) k) := by
  refine (congrArg (V m c main_arg5) (Shape.idx_ext₂ ?_ ?_)).trans (congrFun (V_main_arg5 m c) _)
  · show win0_5.index t 0 * 1024 + 1 * r.val = t.val / 14 * 1024 + r.val
    rw [(idx5 t).1]; rw [Nat.one_mul]
  · show win0_5.index t 1 * 1792 + 1 * k.val = k.val
    rw [(idx5 t).2]; omega

/-- The block of the second product's right factor. -/
theorem blk6 (c : Dev nD) (t : Fin cfg0.N) (k : Fin 1792) (q : Fin 512) : iblk m c 6 t (ix2 k q) = m ((c : Thread nD τ).loc main_arg6) (ix2 k (col t q)) := by
  refine (congrArg (V m c main_arg6) (Shape.idx_ext₂ ?_ ?_)).trans (congrFun (V_main_arg6 m c) _)
  · show win0_6.index t 0 * 1792 + 1 * k.val = k.val
    rw [(idx_facts t).2.2.2.1.1]; omega
  · show win0_6.index t 1 * 512 + 1 * q.val = t.val % 14 * 512 + q.val
    rw [(idx_facts t).2.2.2.1.2]; rw [Nat.one_mul]

/-- The block of the column scales. -/
theorem blk7 (c : Dev nD) (t : Fin cfg0.N) (q : Fin 512) : iblk m c 7 t (ix2 0 q) = m ((c : Thread nD τ).loc main_arg7) (ix1 (col t q)) := by
  refine (congrArg (V m c main_v0) (Shape.idx_ext₂ ?_ ?_)).trans (V_v0 m c (col t q))
  · show win0_7.index t 0 * 1 + 1 * 0 = 0
    rw [(idx_facts t).2.2.2.2.1.1]
  · show win0_7.index t 1 * 512 + 1 * q.val = t.val % 14 * 512 + q.val
    rw [(idx_facts t).2.2.2.2.1.2]; rw [Nat.one_mul]

/-- The first product's left scale. -/
theorem blk0 (c : Dev nD) (t : Fin cfg0.N) : iblk m c 0 t i0 = m ((c : Thread nD τ).loc main_arg3) i0 :=
  (congrArg (V m c main_arg3) (idx1_eq _)).trans (congrFun (V_main_arg3 m c) _)

/-- The first product's right scale. -/
theorem blk1 (c : Dev nD) (t : Fin cfg0.N) : iblk m c 1 t i0 = m ((c : Thread nD τ).loc main_arg4) i0 :=
  (congrArg (V m c main_arg4) (idx1_eq _)).trans (congrFun (V_main_arg4 m c) _)

/-- Row `r` of a point's block of rows is its row of the whole array. -/
theorem xb_row (c : Dev nD) (t : Fin cfg0.N) (r : Fin 1024) : rowOf (xb m c t) r = rowOf (M := 4096) (K := 1792) (m ((c : Thread nD τ).loc main_arg5)) (row t r) :=
  funext fun k => blk5 m c t r k

/-- What a point writes back of the sum is its block of the whole sum. -/
theorem flushed8 (c : Dev nD) (t : Fin cfg0.N) : (dats m 0 c).flushed 8 t = ((cfg0.win 8).blk t).view.read (Elt Ideal) (sums m c) := by
  show (cfg0.win 8).cut (grid0.coords t) ((dats m 0 c).after 8 t) = _
  rw [after8]
  funext y
  obtain ⟨r, q, rfl⟩ : ∃ (r : Fin 1024) (q : Fin 512), y = ix2 r q := ⟨y 0, y 1, eq_ix2 y⟩
  refine (outB_apply _ _ _ _ _ _ _ _ _ (fun r => scaleOf (rowOf (xb m c t) r)) (fun r j => wideB_apply (xb m c t) r j) (ix2 r q)).trans ?_
  have he : ((cfg0.win 8).blk t).view.emb (ix2 r q) = (ix2 (row t r) (col t q) : S4096x7168.Idx) := Shape.idx_ext₂
    (by show win0_8.index t 0 * 1024 + 1 * r.val = t.val / 14 * 1024 + r.val
        rw [(idx_facts t).2.2.2.2.2.1.1, Nat.one_mul])
    (by show win0_8.index t 1 * 512 + 1 * q.val = t.val % 14 * 512 + q.val
        rw [(idx_facts t).2.2.2.2.2.1.2, Nat.one_mul])
  refine Eq.trans ?_ (congrArg (sums m c) he).symm
  have hd1 : dot (iblk m c 3 t) (iblk m c 4 t) r q = dot (M := 4096) (K := 9216) (N := 7168) (m ((c : Thread nD τ).loc main_arg1)) (m ((c : Thread nD τ).loc main_arg2)) (row t r) (col t q) :=
    dot_congr _ _ _ _ _ _ _ _ (fun k => blk3 m c t r k) (fun k => blk4 m c t k q)
  have hd2 : dot (codesB (xb m c t)) (iblk m c 6 t) r q = dot (codesOf (M := 4096) (K := 1792) (m ((c : Thread nD τ).loc main_arg5))) (m ((c : Thread nD τ).loc main_arg6)) (row t r) (col t q) :=
    dot_congr _ _ _ _ _ _ _ _ (fun k => (codesB_apply (xb m c t) r k).trans (congrArg (fun v => codeOf v k) (xb_row m c t r))) (fun k => blk6 m c t k q)
  show sumOf (iblk m c 2 t (ix2 r q)) (dot (iblk m c 3 t) (iblk m c 4 t) r q) (iblk m c 0 t i0) (iblk m c 1 t i0) (dot (codesB (xb m c t)) (iblk m c 6 t) r q)
    (scaleOf (rowOf (xb m c t) r)) (iblk m c 7 t (ix2 0 q)) = _
  rw [hd1, hd2, blk0, blk1, blk2, blk7, xb_row]
  rfl

/-- What a point writes back of the codes is its block of all the codes. -/
theorem flushed9 (c : Dev nD) (t : Fin cfg0.N) : (dats m 0 c).flushed 9 t = ((cfg0.win 9).blk t).view.read (Elt Ideal) (codes m c) := by
  show (cfg0.win 9).cut (grid0.coords t) ((dats m 0 c).after 9 t) = _
  rw [after9]
  funext y
  obtain ⟨r, k, rfl⟩ : ∃ (r : Fin 1024) (k : Fin 1792), y = ix2 r k := ⟨y 0, y 1, eq_ix2 y⟩
  refine (codesB_apply (xb m c t) r k).trans ?_
  have he : ((cfg0.win 9).blk t).view.emb (ix2 r k) = (ix2 (row t r) k : S4096x1792.Idx) := Shape.idx_ext₂
    (by show win0_9.index t 0 * 1024 + 1 * r.val = t.val / 14 * 1024 + r.val
        rw [(idx_facts t).2.2.2.2.2.2.1.1, Nat.one_mul])
    (by show win0_9.index t 1 * 1792 + 1 * k.val = k.val
        rw [(idx_facts t).2.2.2.2.2.2.1.2]; omega)
  refine Eq.trans ?_ (congrArg (codes m c) he).symm
  rw [xb_row]
  rfl

/-- What a point writes back of the row scales is its block of all the row scales. -/
theorem flushed10 (c : Dev nD) (t : Fin cfg0.N) : (dats m 0 c).flushed 10 t = ((cfg0.win 10).blk t).view.read (Elt Ideal) (scales m c) := by
  show (cfg0.win 10).cut (grid0.coords t) ((dats m 0 c).after 10 t) = _
  rw [after10]
  funext y
  obtain ⟨r, k, rfl⟩ : ∃ (r : Fin 1024) (k : Fin 1), y = ix2 r k := ⟨y 0, y 1, eq_ix2 y⟩
  refine (scalesB_apply (xb m c t) r k).trans ?_
  have he : ((cfg0.win 10).blk t).view.emb (ix2 r k) = (ix2 (row t r) k : S4096x1.Idx) := Shape.idx_ext₂
    (by show win0_10.index t 0 * 1024 + 1 * r.val = t.val / 14 * 1024 + r.val
        rw [(idx_facts t).2.2.2.2.2.2.2.1, Nat.one_mul])
    (by show win0_10.index t 1 * 1 + 1 * k.val = k.val
        rw [(idx_facts t).2.2.2.2.2.2.2.2]; omega)
  refine Eq.trans ?_ (congrArg (scales m c) he).symm
  rw [xb_row]
  rfl

/-- Every element of the array is written back at some point. -/
theorem cover8' (i : S4096x7168.Idx) : ∃ t : Fin cfg0.N, (cfg0.win 8).flush t = true ∧ i ∈ ((cfg0.win 8).blk t).view.set := by
  have h0 : (i 0).val < 4096 := (i 0).isLt
  have h1 : (i 1).val < 7168 := (i 1).isLt
  have ht : 14 * ((i 0).val / 1024) + (i 1).val / 512 < cfg0.N := by rw [show cfg0.N = 56 from N_0]; omega
  refine ⟨⟨14 * ((i 0).val / 1024) + (i 1).val / 512, ht⟩, flush0_8 _, ?_⟩
  show i ∈ ((View.whole main_v1_0).slice (win0_8.rect ⟨_, ht⟩)).set
  rw [View.set_slice_whole, Rect.mem_set_unit]
  intro a
  match a with
  | ⟨0, _⟩ => show win0_8.index ⟨_, ht⟩ 0 * 1024 ≤ (i 0).val ∧ (i 0).val < win0_8.index ⟨_, ht⟩ 0 * 1024 + 1024
              rw [(idx_facts _).2.2.2.2.2.1.1]; dsimp only; omega
  | ⟨1, _⟩ => show win0_8.index ⟨_, ht⟩ 1 * 512 ≤ (i 1).val ∧ (i 1).val < win0_8.index ⟨_, ht⟩ 1 * 512 + 512
              rw [(idx_facts _).2.2.2.2.2.1.2]; dsimp only; omega

/-- Every element of the array is written back at some point. -/
theorem cover9' (i : S4096x1792.Idx) : ∃ t : Fin cfg0.N, (cfg0.win 9).flush t = true ∧ i ∈ ((cfg0.win 9).blk t).view.set := by
  have h0 : (i 0).val < 4096 := (i 0).isLt
  have h1 : (i 1).val < 1792 := (i 1).isLt
  have ht : 14 * ((i 0).val / 1024) + 13 < cfg0.N := by rw [show cfg0.N = 56 from N_0]; omega
  refine ⟨⟨14 * ((i 0).val / 1024) + 13, ht⟩, (flush0_9 _).mpr (show (14 * ((i 0).val / 1024) + 13) % 14 = 13 by omega), ?_⟩
  show i ∈ ((View.whole main_v1_1).slice (win0_9.rect ⟨_, ht⟩)).set
  rw [View.set_slice_whole, Rect.mem_set_unit]
  intro a
  match a with
  | ⟨0, _⟩ => show win0_9.index ⟨_, ht⟩ 0 * 1024 ≤ (i 0).val ∧ (i 0).val < win0_9.index ⟨_, ht⟩ 0 * 1024 + 1024
              rw [(idx_facts _).2.2.2.2.2.2.1.1]; dsimp only; omega
  | ⟨1, _⟩ => show win0_9.index ⟨_, ht⟩ 1 * 1792 ≤ (i 1).val ∧ (i 1).val < win0_9.index ⟨_, ht⟩ 1 * 1792 + 1792
              rw [(idx_facts _).2.2.2.2.2.2.1.2]; dsimp only; omega

/-- Every element of the array is written back at some point. -/
theorem cover10' (i : S4096x1.Idx) : ∃ t : Fin cfg0.N, (cfg0.win 10).flush t = true ∧ i ∈ ((cfg0.win 10).blk t).view.set := by
  have h0 : (i 0).val < 4096 := (i 0).isLt
  have h1 : (i 1).val < 1 := (i 1).isLt
  have ht : 14 * ((i 0).val / 1024) + 13 < cfg0.N := by rw [show cfg0.N = 56 from N_0]; omega
  refine ⟨⟨14 * ((i 0).val / 1024) + 13, ht⟩, (flush0_10 _).mpr (show (14 * ((i 0).val / 1024) + 13) % 14 = 13 by omega), ?_⟩
  show i ∈ ((View.whole main_v1_2).slice (win0_10.rect ⟨_, ht⟩)).set
  rw [View.set_slice_whole, Rect.mem_set_unit]
  intro a
  match a with
  | ⟨0, _⟩ => show win0_10.index ⟨_, ht⟩ 0 * 1024 ≤ (i 0).val ∧ (i 0).val < win0_10.index ⟨_, ht⟩ 0 * 1024 + 1024
              rw [(idx_facts _).2.2.2.2.2.2.2.1]; dsimp only; omega
  | ⟨1, _⟩ => show win0_10.index ⟨_, ht⟩ 1 * 1 ≤ (i 1).val ∧ (i 1).val < win0_10.index ⟨_, ht⟩ 1 * 1 + 1
              rw [(idx_facts _).2.2.2.2.2.2.2.2]; dsimp only; omega

/-- The three result arrays after the run. -/
theorem final (c : Dev nD) : (dats m 0 c).arrAt 8 cfg0.N = sums m c ∧ (dats m 0 c).arrAt 9 cfg0.N = codes m c ∧ (dats m 0 c).arrAt 10 cfg0.N = scales m c :=
  ⟨(dats m 0 c).arrAt_eq_of_cover 8 (sums m c) (fun t _ => flushed8 m c t) cover8', (dats m 0 c).arrAt_eq_of_cover 9 (codes m c) (fun t _ => flushed9 m c t) cover9',
    (dats m 0 c).arrAt_eq_of_cover 10 (scales m c) (fun t _ => flushed10 m c t) cover10'⟩

end Cert.DownKernel

end
-- ==== Proof.DownRef.lean ====
module

public import proofs.«01_k».proof.Proof.DownMath
public import proofs.«01_k».proof.Proof.Gen.RefDownIdeal.Value
public import proofs.«01_k».proof.Defs

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.DownRef

open Cert.RefDownIdeal Cert.RefDownIdeal.Gen Cert.DownMath
open Cert.UpKernel (clip8 dot dot_congr i0 idx1_eq)
open Cert.DownKernel (zero2)

variable (m : (ℓ : Loc nD τ sig) → Buf (Elt Ideal) ℓ) (ρ : Dev nD → PrngReg)

/-- The reference's scale of a row. -/
theorem pay4_apply (v : Vec Ideal S4096x1792 .f32) (r : Fin 4096) (q : Fin 1) : k0_pay4 (F := Ideal) v (ix2 r q) = scaleOf (rowOf v r) := by
  have e := rowMax_apply v reduces_S4096x1792_S4096 shapeCasts_S4096_S4096x1 (.inl rfl) rfl r q
  unfold k0_pay4 scaleOf
  rw [← e]
  dsimp only
  generalize shapeCast S4096x1 _ _ = X
  rw [select_apply, cmpf_apply, divf_apply, broadcast_apply, broadcast_apply, broadcast_apply]
  rfl

/-- The reference's codes of a row. -/
theorem pay5_apply (v : Vec Ideal S4096x1792 .f32) (r : Fin 4096) (k : Fin 1792) : k0_pay5 (F := Ideal) v (ix2 r k) = codeOf (rowOf v r) k := by
  unfold k0_pay5 codeOf clip8
  have e : broadcastTo S4096x1792 (k0_pay4 (F := Ideal) v) broadcasts_S4096x1_S4096x1792 (ix2 r k) = scaleOf (rowOf v r) :=
    (broadcastTo_apply _ _ _ (ix2 r 0) fun a => by match a with | ⟨0, _⟩ => rfl | ⟨1, _⟩ => rfl).trans (pay4_apply v r 0)
  rw [← e]
  generalize broadcastTo S4096x1792 _ _ = X
  rw [truncf_apply, minimumf_apply, maximumf_apply, divf_apply, broadcast_apply, broadcast_apply]
  rfl

/-- The first product times its two scales. -/
theorem pay3_apply (h : FVec Ideal S4096x9216 .fp8e4m3) (w : FVec Ideal S9216x7168 .fp8e4m3) (a b : FVec Ideal S1x1 .f32) (r : Fin 4096) (q : Fin 7168) :
    k0_pay3 (F := Ideal) h w a b (ix2 r q) = dot h w r q * (a (ix2 0 0) * b (ix2 0 0)) := by
  have e1 : FloatOps.matmul (DotDims.plain 4096 9216 7168) none h w (constant S4096x7168 .f32 0x00000000#32) (ix2 r q) = dot h w r q :=
    Ideal.matmul_plain_apply (M := 4096) (K := 9216) (N := 7168) none h w (constant S4096x7168 .f32 0x00000000#32) r q
  have e2 : broadcastTo S4096x7168 (mulf (F := Ideal) (φ := .f32) a b) broadcasts_S1x1_S4096x7168 (ix2 r q) = a (ix2 0 0) * b (ix2 0 0) :=
    broadcastTo_apply _ _ _ (ix2 0 0) fun a => by match a with | ⟨0, _⟩ => rfl | ⟨1, _⟩ => rfl
  rw [← e1, ← e2]
  unfold k0_pay3
  simp only [shapeCast_self]
  generalize broadcastTo S4096x7168 _ _ = X
  rfl

/-- The second product times the row scale. -/
theorem pay6_apply (v : FVec Ideal S4096x1792 .f32) (u : FVec Ideal S1792x7168 .fp8e4m3) (r : Fin 4096) (q : Fin 7168) :
    k0_pay6 (F := Ideal) v u (ix2 r q) = dot (k0_pay5 (F := Ideal) v) u r q * scaleOf (rowOf v r) := by
  have e1 : FloatOps.matmul (DotDims.plain 4096 1792 7168) none (k0_pay5 (F := Ideal) v) u (constant S4096x7168 .f32 0x00000000#32) (ix2 r q) = dot (k0_pay5 (F := Ideal) v) u r q :=
    Ideal.matmul_plain_apply (M := 4096) (K := 1792) (N := 7168) none (k0_pay5 (F := Ideal) v) u (constant S4096x7168 .f32 0x00000000#32) r q
  have e2 : broadcastTo S4096x7168 (k0_pay4 (F := Ideal) v) broadcasts_S4096x1_S4096x7168 (ix2 r q) = scaleOf (rowOf v r) :=
    (broadcastTo_apply _ _ _ (ix2 r 0) fun a => by match a with | ⟨0, _⟩ => rfl | ⟨1, _⟩ => rfl).trans (pay4_apply v r 0)
  rw [← e1, ← e2]
  unfold k0_pay6
  generalize k0_pay5 (F := Ideal) v = A
  generalize broadcastTo S4096x7168 _ _ = X
  rw [mulf_apply]
  rfl

/-- The column scales, repeated for every row. -/
theorem pay7_apply (us : Vec Ideal S1x7168 .f32) (r : Fin 4096) (q : Fin 7168) : k0_pay7 (F := Ideal) us (ix2 r q) = us (ix2 0 q) := by
  unfold k0_pay7
  simp only [shapeCast_self]
  exact broadcastTo_apply _ _ _ (ix2 0 q) fun a => by match a with | ⟨0, _⟩ => rfl | ⟨1, _⟩ => rfl

/-- The sum of the three terms, the last of them a product. -/
theorem pay1_apply (x : FVec Ideal S4096x7168 .bf16) (a b d : FVec Ideal S4096x7168 .f32) (i : S4096x7168.Idx) :
    k0_pay1 (F := Ideal) (k0_pay2 (F := Ideal) x) a b d i = x i + a i + b i * d i := by
  unfold k0_pay1 k0_pay2
  rw [truncf_apply, addf_apply, addf_apply, mulf_apply, extf_apply]

/-- What the reference's first result array is shown to hold: the sum. -/
abbrev sums (c : Dev nD) : Buf (Elt Ideal) ((c : Thread nD τ).loc main_v3_0) :=
  sumsOf (M := 4096) (K := 9216) (L := 1792) (N := 7168) (m ((c : Thread nD τ).loc main_arg0)) (m ((c : Thread nD τ).loc main_arg1)) (m ((c : Thread nD τ).loc main_arg2)) (m ((c : Thread nD τ).loc main_arg3) i0) (m ((c : Thread nD τ).loc main_arg4) i0)
    (m ((c : Thread nD τ).loc main_arg5)) (m ((c : Thread nD τ).loc main_arg6)) fun q => m ((c : Thread nD τ).loc main_arg7) (ix1 q)

/-- What the reference's second result array is shown to hold: the codes. -/
abbrev codes (c : Dev nD) : Buf (Elt Ideal) ((c : Thread nD τ).loc main_v3_1) := codesOf (M := 4096) (K := 1792) (m ((c : Thread nD τ).loc main_arg5))

/-- What the reference's third result array is shown to hold: the row scales. -/
abbrev scales (c : Dev nD) : Buf (Elt Ideal) ((c : Thread nD τ).loc main_v3_2) := scalesOf (M := 4096) (K := 1792) (m ((c : Thread nD τ).loc main_arg5))

/-- The host reshape of the first scale keeps its element. -/
theorem V_v0 (c : Dev nD) : V m c main_v0 (ix2 0 0) = m ((c : Thread nD τ).loc main_arg3) i0 := by
  show StableHlo.after hostOps0 (fun b => m (c, b)) (Proc.devRef .tc main_v0) (ix2 0 0) = _
  simp only [hostOps0, StableHlo.after_cons, StableHlo.after_nil]
  rw [StableHlo.reshape_result_ne _ _ _ _ _ _ _ (by decide), StableHlo.reshape_result_ne _ _ _ _ _ _ _ (by decide), StableHlo.reshape_result']
  exact congrArg (m ((c : Thread nD τ).loc main_arg3)) (idx1_eq _)

/-- The host reshape of the second scale keeps its element. -/
theorem V_v1 (c : Dev nD) : V m c main_v1 (ix2 0 0) = m ((c : Thread nD τ).loc main_arg4) i0 := by
  show StableHlo.after hostOps0 (fun b => m (c, b)) (Proc.devRef .tc main_v1) (ix2 0 0) = _
  simp only [hostOps0, StableHlo.after_cons, StableHlo.after_nil]
  rw [StableHlo.reshape_result_ne _ _ _ _ _ _ _ (by decide), StableHlo.reshape_result', StableHlo.reshape_result_ne _ _ _ _ _ _ _ (by decide)]
  exact congrArg (m ((c : Thread nD τ).loc main_arg4)) (idx1_eq _)

/-- The host reshape of the column scales to one row keeps them. -/
theorem V_v2 (c : Dev nD) (q : Fin 7168) : V m c main_v2 (ix2 0 q) = m ((c : Thread nD τ).loc main_arg7) (ix1 q) := by
  show StableHlo.after hostOps0 (fun b => m (c, b)) (Proc.devRef .tc main_v2) (ix2 0 q) = _
  simp only [hostOps0, StableHlo.after_cons, StableHlo.after_nil]
  rw [StableHlo.reshape_result', StableHlo.reshape_result_ne _ _ _ _ _ _ _ (by decide), StableHlo.reshape_result_ne _ _ _ _ _ _ _ (by decide)]
  exact shapeCast_apply (s := S7168) (t := S1x7168) (m ((c : Thread nD τ).loc main_arg7)) shapeCasts_S7168_S1x7168 (ix2 0 q) (ix1 q) (by
    rw [Shape.rowMajor_val_one, Shape.rowMajor_val_two]
    show q.val = 0 * 7168 + q.val
    omega)

/-- Every window's one block is its whole array. -/
theorem idx_zero : ∀ (t : Fin cfg0.N) (a : Fin 2), win0_0.index t a = 0 ∧ win0_1.index t a = 0 ∧ win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 ∧ win0_10.index t a = 0 :=
  (by decide +kernel : ∀ (t : Fin grid0.N) (a : Fin 2), win0_0.index t a = 0 ∧ win0_1.index t a = 0 ∧ win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 ∧ win0_10.index t a = 0)

/-- The summand. -/
theorem blk0 (c : Dev nD) (t : Fin cfg0.N) (r : Fin 4096) (q : Fin 7168) : iblk m c 0 t (ix2 r q) = m ((c : Thread nD τ).loc main_arg0) (ix2 r q) := by
  refine (congrArg (V m c main_arg0) (Shape.idx_ext₂ ?_ ?_)).trans (congrFun (V_main_arg0 m c) _)
  · show win0_0.index t 0 * 4096 + 1 * r.val = r.val
    rw [(idx_zero t 0).1]; omega
  · show win0_0.index t 1 * 7168 + 1 * q.val = q.val
    rw [(idx_zero t 1).1]; omega

/-- The first product's left factor. -/
theorem blk1 (c : Dev nD) (t : Fin cfg0.N) (r : Fin 4096) (k : Fin 9216) : iblk m c 1 t (ix2 r k) = m ((c : Thread nD τ).loc main_arg1) (ix2 r k) := by
  refine (congrArg (V m c main_arg1) (Shape.idx_ext₂ ?_ ?_)).trans (congrFun (V_main_arg1 m c) _)
  · show win0_1.index t 0 * 4096 + 1 * r.val = r.val
    rw [(idx_zero t 0).2.1]; omega
  · show win0_1.index t 1 * 9216 + 1 * k.val = k.val
    rw [(idx_zero t 1).2.1]; omega

/-- The first product's right factor. -/
theorem blk2 (c : Dev nD) (t : Fin cfg0.N) (k : Fin 9216) (q : Fin 7168) : iblk m c 2 t (ix2 k q) = m ((c : Thread nD τ).loc main_arg2) (ix2 k q) := by
  refine (congrArg (V m c main_arg2) (Shape.idx_ext₂ ?_ ?_)).trans (congrFun (V_main_arg2 m c) _)
  · show win0_2.index t 0 * 9216 + 1 * k.val = k.val
    rw [(idx_zero t 0).2.2.1]; omega
  · show win0_2.index t 1 * 7168 + 1 * q.val = q.val
    rw [(idx_zero t 1).2.2.1]; omega

/-- The first product's left scale. -/
theorem blk3 (c : Dev nD) (t : Fin cfg0.N) : iblk m c 3 t (ix2 0 0) = m ((c : Thread nD τ).loc main_arg3) i0 := by
  refine (congrArg (V m c main_v0) (Shape.idx_ext₂ ?_ ?_)).trans (V_v0 m c)
  · show win0_3.index t 0 * 1 + 1 * 0 = 0
    rw [(idx_zero t 0).2.2.2.1]
  · show win0_3.index t 1 * 1 + 1 * 0 = 0
    rw [(idx_zero t 1).2.2.2.1]

/-- The first product's right scale. -/
theorem blk4 (c : Dev nD) (t : Fin cfg0.N) : iblk m c 4 t (ix2 0 0) = m ((c : Thread nD τ).loc main_arg4) i0 := by
  refine (congrArg (V m c main_v1) (Shape.idx_ext₂ ?_ ?_)).trans (V_v1 m c)
  · show win0_4.index t 0 * 1 + 1 * 0 = 0
    rw [(idx_zero t 0).2.2.2.2.1]
  · show win0_4.index t 1 * 1 + 1 * 0 = 0
    rw [(idx_zero t 1).2.2.2.2.1]

/-- The rows to quantise. -/
theorem blk5 (c : Dev nD) (t : Fin cfg0.N) (r : Fin 4096) (k : Fin 1792) : iblk m c 5 t (ix2 r k) = m ((c : Thread nD τ).loc main_arg5) (ix2 r k) := by
  refine (congrArg (V m c main_arg5) (Shape.idx_ext₂ ?_ ?_)).trans (congrFun (V_main_arg5 m c) _)
  · show win0_5.index t 0 * 4096 + 1 * r.val = r.val
    rw [(idx_zero t 0).2.2.2.2.2.1]; omega
  · show win0_5.index t 1 * 1792 + 1 * k.val = k.val
    rw [(idx_zero t 1).2.2.2.2.2.1]; omega

/-- The second product's right factor. -/
theorem blk6 (c : Dev nD) (t : Fin cfg0.N) (k : Fin 1792) (q : Fin 7168) : iblk m c 6 t (ix2 k q) = m ((c : Thread nD τ).loc main_arg6) (ix2 k q) := by
  refine (congrArg (V m c main_arg6) (Shape.idx_ext₂ ?_ ?_)).trans (congrFun (V_main_arg6 m c) _)
  · show win0_6.index t 0 * 1792 + 1 * k.val = k.val
    rw [(idx_zero t 0).2.2.2.2.2.2.1]; omega
  · show win0_6.index t 1 * 7168 + 1 * q.val = q.val
    rw [(idx_zero t 1).2.2.2.2.2.2.1]; omega

/-- The column scales. -/
theorem blk7 (c : Dev nD) (t : Fin cfg0.N) (q : Fin 7168) : iblk m c 7 t (ix2 0 q) = m ((c : Thread nD τ).loc main_arg7) (ix1 q) := by
  refine (congrArg (V m c main_v2) (Shape.idx_ext₂ ?_ ?_)).trans (V_v2 m c q)
  · show win0_7.index t 0 * 1 + 1 * 0 = 0
    rw [(idx_zero t 0).2.2.2.2.2.2.2.1]
  · show win0_7.index t 1 * 7168 + 1 * q.val = q.val
    rw [(idx_zero t 1).2.2.2.2.2.2.2.1]; omega

/-- Every row of the one block of rows is a row of the array. -/
theorem blk5_row (c : Dev nD) (t : Fin cfg0.N) (r : Fin 4096) : rowOf (M := 4096) (K := 1792) (iblk m c 5 t) r = rowOf (M := 4096) (K := 1792) (m ((c : Thread nD τ).loc main_arg5)) r :=
  funext fun k => blk5 m c t r k

/-- What the one point writes back of the sum is the whole sum. -/
theorem flushed8 (c : Dev nD) (t : Fin cfg0.N) : (dats m 0 c).flushed 8 t = ((cfg0.win 8).blk t).view.read (Elt Ideal) (sums m c) := by
  rw [Cert.RefDownIdeal.Value.flushed8]
  unfold out0_8
  rw [View.canon_unit_zero zero2, View.ld_unit_zero zero2, View.ld_unit_zero zero2, View.ld_unit_zero zero2, View.ld_unit_zero zero2, View.ld_unit_zero zero2, View.ld_unit_zero zero2, View.ld_unit_zero zero2, View.ld_unit_zero zero2]
  funext y
  obtain ⟨r, q, rfl⟩ : ∃ (r : Fin 4096) (q : Fin 7168), y = ix2 r q := ⟨y 0, y 1, eq_ix2 y⟩
  have he : ((cfg0.win 8).blk t).view.emb (ix2 r q) = (ix2 r q : S4096x7168.Idx) := Shape.idx_ext₂
    (by show win0_8.index t 0 * 4096 + 1 * r.val = r.val; rw [(idx_zero t 0).2.2.2.2.2.2.2.2.1]; omega)
    (by show win0_8.index t 1 * 7168 + 1 * q.val = q.val; rw [(idx_zero t 1).2.2.2.2.2.2.2.2.1]; omega)
  refine Eq.trans ?_ (congrArg (sums m c) he).symm
  have hd1 : dot (M := 4096) (K := 9216) (N := 7168) (iblk m c 1 t) (iblk m c 2 t) r q = dot (M := 4096) (K := 9216) (N := 7168) (m ((c : Thread nD τ).loc main_arg1)) (m ((c : Thread nD τ).loc main_arg2)) r q :=
    dot_congr _ _ _ _ _ _ _ _ (fun k => blk1 m c t r k) (fun k => blk2 m c t k q)
  have hd2 : dot (M := 4096) (K := 1792) (N := 7168) (k0_pay5 (F := Ideal) (iblk m c 5 t)) (iblk m c 6 t) r q = dot (codesOf (M := 4096) (K := 1792) (m ((c : Thread nD τ).loc main_arg5))) (m ((c : Thread nD τ).loc main_arg6)) r q :=
    dot_congr _ _ _ _ _ _ _ _ (fun k => (pay5_apply (iblk m c 5 t) r k).trans (congrArg (fun v => codeOf v k) (blk5_row m c t r))) (fun k => blk6 m c t k q)
  refine (pay1_apply (iblk m c 0 t) (k0_pay3 (iblk m c 1 t) (iblk m c 2 t) (iblk m c 3 t) (iblk m c 4 t)) (k0_pay6 (iblk m c 5 t) (iblk m c 6 t)) (k0_pay7 (iblk m c 7 t)) (ix2 r q)).trans ?_
  rw [pay3_apply, pay6_apply, pay7_apply, hd1, hd2, blk0, blk3, blk4, blk7, blk5_row]
  rfl

/-- What the one point writes back of the codes is all the codes. -/
theorem flushed9 (c : Dev nD) (t : Fin cfg0.N) : (dats m 0 c).flushed 9 t = ((cfg0.win 9).blk t).view.read (Elt Ideal) (codes m c) := by
  rw [Cert.RefDownIdeal.Value.flushed9]
  unfold out0_9
  rw [View.canon_unit_zero zero2, View.ld_unit_zero zero2]
  funext y
  obtain ⟨r, q, rfl⟩ : ∃ (r : Fin 4096) (q : Fin 1792), y = ix2 r q := ⟨y 0, y 1, eq_ix2 y⟩
  have he : ((cfg0.win 9).blk t).view.emb (ix2 r q) = (ix2 r q : S4096x1792.Idx) := Shape.idx_ext₂
    (by show win0_9.index t 0 * 4096 + 1 * r.val = r.val; rw [(idx_zero t 0).2.2.2.2.2.2.2.2.2.1]; omega)
    (by show win0_9.index t 1 * 1792 + 1 * q.val = q.val; rw [(idx_zero t 1).2.2.2.2.2.2.2.2.2.1]; omega)
  refine Eq.trans ?_ (congrArg (codes m c) he).symm
  refine (pay5_apply (iblk m c 5 t) r q).trans ?_
  rw [blk5_row]
  rfl

/-- What the one point writes back of the row scales is all the row scales. -/
theorem flushed10 (c : Dev nD) (t : Fin cfg0.N) : (dats m 0 c).flushed 10 t = ((cfg0.win 10).blk t).view.read (Elt Ideal) (scales m c) := by
  rw [Cert.RefDownIdeal.Value.flushed10]
  unfold out0_10
  rw [View.canon_unit_zero zero2, View.ld_unit_zero zero2]
  funext y
  obtain ⟨r, q, rfl⟩ : ∃ (r : Fin 4096) (q : Fin 1), y = ix2 r q := ⟨y 0, y 1, eq_ix2 y⟩
  have he : ((cfg0.win 10).blk t).view.emb (ix2 r q) = (ix2 r q : S4096x1.Idx) := Shape.idx_ext₂
    (by show win0_10.index t 0 * 4096 + 1 * r.val = r.val; rw [(idx_zero t 0).2.2.2.2.2.2.2.2.2.2]; omega)
    (by show win0_10.index t 1 * 1 + 1 * q.val = q.val; rw [(idx_zero t 1).2.2.2.2.2.2.2.2.2.2]; omega)
  refine Eq.trans ?_ (congrArg (scales m c) he).symm
  refine (pay4_apply (iblk m c 5 t) r q).trans ?_
  rw [blk5_row]
  rfl

/-- The one point writes back the whole array. -/
theorem cover8 (i : S4096x7168.Idx) : ∃ t : Fin cfg0.N, (cfg0.win 8).flush t = true ∧ i ∈ ((cfg0.win 8).blk t).view.set := by
  have h0 : (i 0).val < 4096 := (i 0).isLt
  have h1 : (i 1).val < 7168 := (i 1).isLt
  have ht : 0 < cfg0.N := by rw [show cfg0.N = 1 from N_0]; omega
  refine ⟨⟨0, ht⟩, flush0_8 _, ?_⟩
  show i ∈ ((View.whole main_v3_0).slice (win0_8.rect ⟨0, ht⟩)).set
  rw [View.set_slice_whole, Rect.mem_set_unit]
  intro a
  match a with
  | ⟨0, _⟩ => show win0_8.index ⟨0, ht⟩ 0 * 4096 ≤ (i 0).val ∧ (i 0).val < win0_8.index ⟨0, ht⟩ 0 * 4096 + 4096
              rw [(idx_zero _ 0).2.2.2.2.2.2.2.2.1]; omega
  | ⟨1, _⟩ => show win0_8.index ⟨0, ht⟩ 1 * 7168 ≤ (i 1).val ∧ (i 1).val < win0_8.index ⟨0, ht⟩ 1 * 7168 + 7168
              rw [(idx_zero _ 1).2.2.2.2.2.2.2.2.1]; omega

/-- The one point writes back the whole array. -/
theorem cover9 (i : S4096x1792.Idx) : ∃ t : Fin cfg0.N, (cfg0.win 9).flush t = true ∧ i ∈ ((cfg0.win 9).blk t).view.set := by
  have h0 : (i 0).val < 4096 := (i 0).isLt
  have h1 : (i 1).val < 1792 := (i 1).isLt
  have ht : 0 < cfg0.N := by rw [show cfg0.N = 1 from N_0]; omega
  refine ⟨⟨0, ht⟩, flush0_9 _, ?_⟩
  show i ∈ ((View.whole main_v3_1).slice (win0_9.rect ⟨0, ht⟩)).set
  rw [View.set_slice_whole, Rect.mem_set_unit]
  intro a
  match a with
  | ⟨0, _⟩ => show win0_9.index ⟨0, ht⟩ 0 * 4096 ≤ (i 0).val ∧ (i 0).val < win0_9.index ⟨0, ht⟩ 0 * 4096 + 4096
              rw [(idx_zero _ 0).2.2.2.2.2.2.2.2.2.1]; omega
  | ⟨1, _⟩ => show win0_9.index ⟨0, ht⟩ 1 * 1792 ≤ (i 1).val ∧ (i 1).val < win0_9.index ⟨0, ht⟩ 1 * 1792 + 1792
              rw [(idx_zero _ 1).2.2.2.2.2.2.2.2.2.1]; omega

/-- The one point writes back the whole array. -/
theorem cover10 (i : S4096x1.Idx) : ∃ t : Fin cfg0.N, (cfg0.win 10).flush t = true ∧ i ∈ ((cfg0.win 10).blk t).view.set := by
  have h0 : (i 0).val < 4096 := (i 0).isLt
  have h1 : (i 1).val < 1 := (i 1).isLt
  have ht : 0 < cfg0.N := by rw [show cfg0.N = 1 from N_0]; omega
  refine ⟨⟨0, ht⟩, flush0_10 _, ?_⟩
  show i ∈ ((View.whole main_v3_2).slice (win0_10.rect ⟨0, ht⟩)).set
  rw [View.set_slice_whole, Rect.mem_set_unit]
  intro a
  match a with
  | ⟨0, _⟩ => show win0_10.index ⟨0, ht⟩ 0 * 4096 ≤ (i 0).val ∧ (i 0).val < win0_10.index ⟨0, ht⟩ 0 * 4096 + 4096
              rw [(idx_zero _ 0).2.2.2.2.2.2.2.2.2.2]; omega
  | ⟨1, _⟩ => show win0_10.index ⟨0, ht⟩ 1 * 1 ≤ (i 1).val ∧ (i 1).val < win0_10.index ⟨0, ht⟩ 1 * 1 + 1
              rw [(idx_zero _ 1).2.2.2.2.2.2.2.2.2.2]; omega

/-- The reference's three result arrays after its run. -/
theorem final (c : Dev nD) : (dats m 0 c).arrAt 8 cfg0.N = sums m c ∧ (dats m 0 c).arrAt 9 cfg0.N = codes m c ∧ (dats m 0 c).arrAt 10 cfg0.N = scales m c :=
  ⟨(dats m 0 c).arrAt_eq_of_cover 8 (sums m c) (fun t _ => flushed8 m c t) cover8, (dats m 0 c).arrAt_eq_of_cover 9 (codes m c) (fun t _ => flushed9 m c t) cover9,
    (dats m 0 c).arrAt_eq_of_cover 10 (scales m c) (fun t _ => flushed10 m c t) cover10⟩

end Cert.DownRef

end
-- ==== Proof.DownClaims.lean ====
module

public import proofs.«01_k».proof.Proof.DownValue
public import proofs.«01_k».proof.Proof.DownRef
public import proofs.«01_k».proof.Proof.Gen.RefDownIdeal.Value
public import proofs.«01_k».proof.Defs

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.DownClaims

open Cert.UpKernel (i0)
open Cert.DownMath

/-- The kernel's three results are the reference's, on the same arguments. -/
theorem algebraic : Cert.algebraic_DownIdeal_RefDownIdeal (hDownIdeal := Cert.DownIdeal.Gen.facts) (hRefDownIdeal := Cert.RefDownIdeal.Gen.facts) := by
  intro m g m' g' _ hargs
  refine ⟨fun c => Cert.DownKernel.sums m c, fun c => Cert.DownKernel.codes m c, fun c => Cert.DownKernel.scales m c, ?_, ?_⟩
  · refine (θ_run (Cert.DownIdeal.defs (F := Ideal)) _ _).mono (fun r h c => ?_) (θ_run_and (Cert.DownKernel.run_main m g) (Cert.DownKernel.frame m g))
    obtain ⟨f8, f9, f10⟩ := Cert.DownKernel.final m c
    exact ⟨((h.1 c).1 8).trans f8, ((h.1 c).1 9).trans f9, ((h.1 c).1 10).trans f10, h.2.1 c⟩
  · refine (θ_run (Cert.RefDownIdeal.defs (F := Ideal)) _ _).mono (fun r h c => ?_) (Cert.RefDownIdeal.Value.run_blocks m' g')
    obtain ⟨f8, f9, f10⟩ := Cert.DownRef.final m' c
    obtain ⟨a0, a1, a2, a3, a4, a5, a6, a7⟩ := hargs c
    refine ⟨(h c).1.trans (f8.trans ?_), (h c).2.1.trans (f9.trans ?_), (h c).2.2.1.trans (f10.trans ?_), (h c).2.2.2⟩
    · show sumsOf _ _ _ _ _ _ _ _ = sumsOf _ _ _ _ _ _ _ _
      rw [a0, a1, a2, a3, a4, a5, a6, a7]
    · show codesOf _ = codesOf _
      rw [a5]
    · show scalesOf _ = scalesOf _
      rw [a5]

end Cert.DownClaims

end
-- ==== Proof.NormMath.lean ====
module

public import proofs.«01_k».proof.Proof.UpValue
public import Idealize.ShloMosaic.Lib.ValueIdx
public import Idealize.ShloMosaic.Lib.IdealHost

@[expose] public section

noncomputable section

open Idealize.ShloMosaic
open Idealize.ShloMosaic.ValueIdx

namespace Cert.NormMath

open scoped BigOperators
open Cert.UpKernel (clip8)

/-- The sum of the squares of a row. -/
def squares {K : Nat} (v : Fin K → EReal) : EReal := ∑ k : Fin K, v k * v k

/-- A value with `n` terms added to it one after the other. -/
def chain (z : EReal) : (n : Nat) → (Fin n → EReal) → EReal
  | 0, _ => z
  | n + 1, f => chain z n (fun i => f i.castSucc) + f (Fin.last n)

/-- Adding terms one after the other adds their sum. -/
theorem chain_eq (z : EReal) : ∀ (n : Nat) (f : Fin n → EReal), chain z n f = z + ∑ i : Fin n, f i
  | 0, f => by simp [chain]
  | n + 1, f => by rw [chain, chain_eq z n, Fin.sum_univ_castSucc, add_assoc]

/-- Column `128 j + q` of a row of 7168. -/
def col (j : Fin 56) (q : Fin 128) : Fin 7168 := ⟨128 * j.val + q.val, by omega⟩

/-- The squares summed over 56 strips lane by lane, and then over the 128 lanes, are the squares of the whole row. -/
theorem squares_strips (v : Fin 7168 → EReal) :
    ∑ q : Fin 128, chain 0 56 (fun j => v (col j q) * v (col j q)) = squares v := by
  simp only [chain_eq, zero_add]
  rw [Finset.sum_comm]
  unfold squares
  rw [← (finProdFinEquiv (m := 56) (n := 128)).sum_comp (fun k : Fin (56 * 128) => v k * v k), Fintype.sum_prod_type]
  refine Finset.sum_congr rfl fun j _ => Finset.sum_congr rfl fun q _ => ?_
  have e : col j q = finProdFinEquiv (m := 56) (n := 128) (j, q) := Fin.ext (by
    show 128 * j.val + q.val = q.val + 128 * j.val; omega)
  rw [e]

/-- A square is not negative. -/
theorem square_nonneg (a : EReal) : 0 ≤ a * a := by
  rcases le_total 0 a with h | h
  · exact mul_nonneg h h
  · rw [← neg_mul_neg]
    have h' : 0 ≤ -a := EReal.neg_nonneg.2 h
    exact mul_nonneg h' h'

/-- A sum of squares is not negative. -/
theorem squares_nonneg {K : Nat} (v : Fin K → EReal) : 0 ≤ squares v := Finset.sum_nonneg fun k _ => square_nonneg (v k)

/-- The small constant added under the root is a positive real. -/
theorem eps_pos : (0 : EReal) < Ideal.ofBits .f32 0x3727C5AC#32 := by
  simp [Ideal.ofBits, Ideal.ieee, -EReal.coe_mul]

/-- The pattern of 7168. -/
theorem ofBits_7168 : Ideal.ofBits .f32 0x45E00000#32 = ((7168 : ℝ) : EReal) := by
  simp [Ideal.ofBits, Ideal.ieee, -EReal.coe_mul]
  norm_num

/-- The root of a positive number is not zero. -/
theorem sqrt_ne_zero {a : EReal} (h : 0 < a) : Ideal.sqrt a ≠ 0 := by
  induction a with
  | bot => exact absurd h (by simp)
  | top => simp
  | coe r =>
    have hr : 0 < r := by exact_mod_cast h
    rw [Ideal.sqrt_coe, if_neg (not_lt.2 hr.le)]
    exact_mod_cast (Real.sqrt_pos.2 hr).ne'

/-- The kernel's code of one value: the value times the reciprocal root of the mean square, times the weight, times the reciprocal scale,
clipped. -/
def kernelCode (v : Fin 7168 → EReal) (w sx : EReal) (q : Fin 7168) : EReal :=
  clip8 (v q * Ideal.div (Ideal.ofBits .f32 0x3F800000#32) (Ideal.sqrt (squares v * ((1 / 7168 : ℝ) : EReal) + Ideal.ofBits .f32 0x3727C5AC#32))
    * w * Ideal.div (Ideal.ofBits .f32 0x3F800000#32) sx)

/-- The reference's code of one value: the value divided by the root of the mean square, times the weight, divided by the scale, clipped. -/
def referenceCode (v : Fin 7168 → EReal) (w sx : EReal) (q : Fin 7168) : EReal :=
  clip8 (Ideal.div (Ideal.div (v q) (Ideal.sqrt (Ideal.div (squares v) (Ideal.ofBits .f32 0x45E00000#32) + Ideal.ofBits .f32 0x3727C5AC#32)) * w) sx)

/-- For a scale that is not zero the two codes are the same. -/
theorem code_eq (v : Fin 7168 → EReal) (w sx : EReal) (q : Fin 7168) (h : sx ≠ 0) : kernelCode v w sx q = referenceCode v w sx q := by
  have hd : Ideal.div (squares v) (Ideal.ofBits .f32 0x45E00000#32) = squares v * ((1 / 7168 : ℝ) : EReal) := by
    rw [ofBits_7168, Ideal.div_coe (by norm_num : (7168 : ℝ) ≠ 0)]
  have hm : 0 ≤ squares v * ((1 / 7168 : ℝ) : EReal) :=
    mul_nonneg (squares_nonneg v) (by exact_mod_cast (by norm_num : (0 : ℝ) ≤ 1 / 7168))
  have hs : Ideal.sqrt (squares v * ((1 / 7168 : ℝ) : EReal) + Ideal.ofBits .f32 0x3727C5AC#32) ≠ 0 :=
    sqrt_ne_zero (lt_of_lt_of_le eps_pos (le_add_of_nonneg_left hm))
  unfold kernelCode referenceCode
  rw [hd, Ideal.ofBits_one_f32, Ideal.mul_one_div hs, Ideal.mul_one_div h]

/-- The sum over the columns, kept as a column of its own, is the sum over the row. -/
theorem rowSum_apply {R K : Nat} (v : FVec Ideal ⟨2, ![R, K]⟩ .f32) (h : Shape.Reduces ⟨2, ![R, K]⟩ [1] ⟨1, ![R]⟩)
    (hs : Shape.ShapeCasts ⟨1, ![R]⟩ ⟨2, ![R, 1]⟩) (hφ : FKind.Formats .f32) (hacc : (0x00000000#32 : BitVec 32) = FKind.add.neutral .f32 hφ) (r : Fin R) (q : Fin 1) :
    shapeCast ⟨2, ![R, 1]⟩ (multiReduction .add [1] ⟨1, ![R]⟩ v 0x00000000#32 h hφ hacc) hs (ix2 r q) = ∑ k : Fin K, v (ix2 r k) := by
  rw [shapeCast_apply _ hs (ix2 r q) (ix1 r) (by
    rw [Shape.rowMajor_val_one, Shape.rowMajor_val_two]
    have hq : q.val = 0 := by omega
    show r.val = r.val * 1 + q.val
    omega)]
  refine (Ideal.multiReduction_add_single v _ h hφ hacc (ix1 r)).trans ?_
  refine Finset.sum_congr rfl fun k _ => congrArg v ?_
  exact Shape.idx_ext₂ rfl rfl

end Cert.NormMath
end
-- ==== Proof.NormLoop.lean ====
module

public import proofs.«01_k».proof.Proof.Gen.NormIdeal.Value
public import proofs.«01_k».proof.Proof.NormMath
public import Idealize.ShloMosaic.Lib.ValueIdx
public import Idealize.ShloMosaic.Lib.Pipeline.Value

@[expose] public section

set_option maxRecDepth 16384

noncomputable section

namespace Cert.NormKernel

open Idealize.ShloMosaic Idealize.ShloMosaic.TcCoe Idealize.SL.Sem
open Idealize.ShloMosaic.ValueIdx
open Cert.NormIdeal Cert.NormIdeal.Gen
open Cert.NormMath

/-- The reciprocal root of the mean square of row `a` of a block. -/
def rowRoot (x : FVec Ideal S256x7168 .bf16) (a : Fin 256) : EReal :=
  Ideal.div (Ideal.ofBits .f32 0x3F800000#32)
    (Ideal.sqrt (squares (fun k => x (ix2 a k)) * ((1 / 7168 : ℝ) : EReal) + Ideal.ofBits .f32 0x3727C5AC#32))

/-- The codes of a block of 256 rows. -/
def blockCode (sx : EReal) (x : FVec Ideal S256x7168 .bf16) (w : FVec Ideal S1x7168 .f32) (y : S256x7168.Idx) : EReal :=
  kernelCode (fun k => x (ix2 (y 0) k)) (w (ix2 0 (y 1))) sx (y 1)

/-- The rows one trip of the loop works on start at this row. -/
abbrev start (k : Fin k0_t1_loop.trips) : Nat := BitVec.toNat (Scalar.indexCast (Scalar.muli (Scf.iv 0#32 1#32 k) 32#32))

/-- Trip `k` starts at row `32 * k`. -/
theorem start_eq (k : Fin k0_t1_loop.trips) : start k = 32 * k.val := by
  have h_c0_i32_50 : Affine.IsInt 0#32 (0) := Affine.ofNat _ (by omega)
  have h_c1_i32 : Affine.IsInt 1#32 (1) := Affine.ofNat _ (by omega)
  have r_k0_t1 : k.val < 8 := Nat.lt_of_lt_of_le k.isLt k0_t1_abs.2.1
  have h_arg14 : Affine.IsInt _ ((k.val : Int)) := Affine.iv h_c0_i32_50 h_c1_i32 k.val (by omega)
  have h_c32_i32_52 : Affine.IsInt 32#32 (32) := Affine.ofNat _ (by omega)
  have h_v81 : Affine.IsInt _ (32 * (k.val : Int)) := Affine.muli h_arg14 h_c32_i32_52 (by omega)
  have h_v83 : Affine.IsInt _ (32 * (k.val : Int)) := Affine.indexCast h_v81
  have h := Affine.toNat_of h_v83 (by omega)
  show BitVec.toNat _ = 32 * k.val
  omega

/-- Row `p` of trip `k`, as a row of the block. -/
def tripRow (k : Fin k0_t1_loop.trips) (p : Fin 32) : Fin 256 :=
  ⟨start k + p.val, by have h := start_eq k; have h' : k.val < 8 := Nat.lt_of_lt_of_le k.isLt k0_t1_abs.2.1; omega⟩

/-- What a load of 128 columns from column `o` on reads. -/
theorem ld_at (x : FVec Ideal S256x7168 .bf16) (k : Fin k0_t1_loop.trips) (o : Nat)
    (hx : ∀ a : Fin 2, ![start k, o] a + ![32, 128] a ≤ S256x7168.size a) (p : Fin 32) (q : Fin 128) :
    View.ld (Val := Elt Ideal) (e' := .bf16) x (Rect.unit (s := S256x7168) ![start k, o] ![32, 128] hx) (ix2 p q)
      = x (ix2 (tripRow k p) ⟨o + q.val, by have h : o + 128 ≤ 7168 := hx 1; omega⟩) :=
  congrArg x (Shape.idx_ext₂ (show start k + 1 * p.val = start k + p.val by omega) (show o + 1 * q.val = o + q.val by omega))

/-- The mean square's reciprocal root, as the kernel computes it for its 32 rows from the squares summed lane by lane. -/
theorem root_apply (x : FVec Ideal S256x7168 .bf16) (k : Fin k0_t1_loop.trips) (acc : FVec Ideal S32x128 .f32)
    (hacc : ∀ (p : Fin 32) (q : Fin 128), acc (ix2 p q) = chain 0 56 fun j => x (ix2 (tripRow k p) (col j q)) * x (ix2 (tripRow k p) (col j q))) (p : Fin 32) :
    divf (broadcast S32x1 (Scalar.ofBits (F := Ideal) .f32 0x3F800000#32))
      (sqrt (addf (mulf (shapeCast S32x1 (multiReduction .add [1] S32 acc 0x00000000#32 reduces_S32x128_S32 (.inl rfl) rfl) shapeCasts_S32_S32x1)
        (broadcast S32x1 (Named.named (F := Ideal) κ "inv_d_model" 0x39124925#32))) (broadcast S32x1 (Scalar.ofBits (F := Ideal) .f32 0x3727C5AC#32)))) (ix2 p 0)
      = rowRoot x (tripRow k p) := by
  have hs := rowSum_apply acc reduces_S32x128_S32 shapeCasts_S32_S32x1 (.inl rfl) rfl p 0
  rw [Finset.sum_congr rfl fun q _ => hacc p q, squares_strips fun k' => x (ix2 (tripRow k p) k')] at hs
  have hn : Named.named (F := Ideal) κ "inv_d_model" (φ := .f32) 0x39124925#32 = ((1 / 7168 : ℝ) : EReal) :=
    IdealRules.named_const.ideal_named_scalar _ _ _ _ rfl
  rw [hn]
  unfold rowRoot
  rw [← hs]
  rfl

/-- A load of 128 columns stays inside the block. -/
theorem strip_inb (k : Fin k0_t1_loop.trips) (j : Fin 56) : ∀ a : Fin 2, ![start k, 128 * j.val] a + ![32, 128] a ≤ S256x7168.size a := by
  have h := start_eq k
  have h' : k.val < 8 := Nat.lt_of_lt_of_le k.isLt k0_t1_abs.2.1
  intro a
  match a with
  | ⟨0, _⟩ => show start k + 32 ≤ 256; omega
  | ⟨1, _⟩ => show 128 * j.val + 128 ≤ 7168; omega

/-- The squares of the 56 loads of a trip, added up lane by lane. -/
theorem lane_squares (x : FVec Ideal S256x7168 .bf16) (k : Fin k0_t1_loop.trips) (p : Fin 32) (q : Fin 128) :
    (chain (Ideal.ofBits .f32 0x00000000#32) 56 fun j =>
      View.ld (Val := Elt Ideal) (e' := .bf16) x (Rect.unit (s := S256x7168) ![start k, 128 * j.val] ![32, 128] (strip_inb k j)) (ix2 p q)
        * View.ld (Val := Elt Ideal) (e' := .bf16) x (Rect.unit (s := S256x7168) ![start k, 128 * j.val] ![32, 128] (strip_inb k j)) (ix2 p q))
      = chain 0 56 fun j => x (ix2 (tripRow k p) (col j q)) * x (ix2 (tripRow k p) (col j q)) := by
  rw [Ideal.ofBits_zero_f32]
  refine congrArg (chain 0 56) (funext fun j => ?_)
  rw [ld_at x k (128 * j.val) (strip_inb k j) p q]
  rfl

/-- The store of 128 columns from column `o` on holds those columns' codes. -/
theorem stripe (s : EReal) (x : FVec Ideal S256x7168 .bf16) (w : FVec Ideal S1x7168 .f32) (k : Fin k0_t1_loop.trips) (r : FVec Ideal S32x1 .f32)
    (hr : ∀ p : Fin 32, r (ix2 p 0) = rowRoot x (tripRow k p)) (o : Nat)
    (hx : ∀ a : Fin 2, ![start k, o] a + ![32, 128] a ≤ S256x7168.size a) (hw : ∀ a : Fin 2, ![0, o] a + ![1, 128] a ≤ S1x7168.size a) (z : S32x128.Idx) :
    truncf .fp8e4m3 (minimumf (broadcast S32x128 (Scalar.ofBits (F := Ideal) .f32 0x43E00000#32)) (maximumf (broadcast S32x128 (Scalar.ofBits (F := Ideal) .f32 0xC3E00000#32))
      (mulf (mulf (mulf (extf .f32 (View.ld (Val := Elt Ideal) (e' := .bf16) x (Rect.unit (s := S256x7168) ![start k, o] ![32, 128] hx)) bitsLt_bf16_f32) (broadcastTo S32x128 r broadcasts_S32x1_S32x128))
        (broadcastTo S32x128 (shapeCast S1x128 (View.ld (Val := Elt Ideal) (e' := .f32) w (Rect.unit (s := S1x7168) ![0, o] ![1, 128] hw)) shapeCasts_S1x128_S1x128) broadcasts_S1x128_S32x128))
        (broadcast S32x128 (Scalar.divf (Scalar.ofBits (F := Ideal) .f32 0x3F800000#32) s))))) bitsLt_fp8e4m3_f32 z
      = blockCode s x w ((Rect.unit (s := S256x7168) ![start k, o] ![32, 128] hx).emb z) := by
  obtain ⟨p, q, rfl⟩ : ∃ (p : Fin 32) (q : Fin 128), z = ix2 p q := ⟨z 0, z 1, eq_ix2 z⟩
  have e1 : broadcastTo S32x128 r broadcasts_S32x1_S32x128 (ix2 p q) = r (ix2 p 0) :=
    broadcastTo_apply r _ _ _ fun a => by match a with | ⟨0, _⟩ => rfl | ⟨1, _⟩ => rfl
  have e2 : ∀ v : FVec Ideal S1x128 .f32, broadcastTo S32x128 (shapeCast S1x128 v shapeCasts_S1x128_S1x128) broadcasts_S1x128_S32x128 (ix2 p q) = v (ix2 0 q) := fun v => by
    rw [shapeCast_self]
    exact broadcastTo_apply v _ _ _ fun a => by match a with | ⟨0, _⟩ => rfl | ⟨1, _⟩ => rfl
  have ey : (Rect.unit (s := S256x7168) ![start k, o] ![32, 128] hx).emb (ix2 p q) = ix2 (tripRow k p) ⟨o + q.val, by
      have h : o + 128 ≤ 7168 := hx 1; omega⟩ :=
    Shape.idx_ext₂ (show start k + 1 * p.val = start k + p.val by omega) (show o + 1 * q.val = o + q.val by omega)
  rw [ey]
  simp only [truncf_apply, minimumf_apply, maximumf_apply, mulf_apply, extf_apply, broadcast_apply]
  rw [e1, e2 (View.ld (Val := Elt Ideal) (e' := .f32) w (Rect.unit (s := S1x7168) ![0, o] ![1, 128] hw)), hr p]
  have ew : View.ld (Val := Elt Ideal) (e' := .f32) w (Rect.unit (s := S1x7168) ![0, o] ![1, 128] hw) (ix2 0 q) = w (ix2 0 ⟨o + q.val, by
      have h : o + 128 ≤ 7168 := hx 1; omega⟩) := congrArg w (Shape.idx_ext₂ rfl (show o + 1 * q.val = o + q.val by omega))
  rw [ld_at x k o hx p q, ew]
  rfl

/-- Every store of a trip holds the block's codes. -/
theorem trip_good (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x1792 .fp8e4m3) (harg5 : arg5.IsWhole) (arg6 : Memref sig .tc .vmem S1x1792 .f32) (harg6 : arg6.IsWhole) (arg7 : Memref sig .tc .vmem S256x7168 .fp8e4m3) (harg7 : arg7.IsWhole) (arg8 : Memref sig .tc .vmem S256x1792 .i8) (harg8 : arg8.IsWhole) (arg9 : Memref sig .tc .vmem S256x112 .fp8e4m3) (harg9 : arg9.IsWhole) (arg10 : Memref sig .tc .vmem S1792x128 .i32) (harg10 : arg10.IsWhole) (s : Elt Ideal .f32) (x : Vec Ideal S256x7168 .bf16) (w : Vec Ideal S1x7168 .f32) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 s (harg3.unread x) (harg4.unread w) k, ∀ z : p.1.shape.Idx, p.2 z = blockCode s x w (p.1.emb z) := by
  unfold tripL_k0_t1 trip_k0_t1
  dsimp only
  sl_unfold_words
  simp only [View.readAt_eq_ld, harg3.read_unread, harg4.read_unread, k0_pay10]
  generalize hroot : k0_pay8 (F := Ideal) _ _ _ _ _ _ _ _ = r
  have hr : ∀ p : Fin 32, r (ix2 p 0) = rowRoot x (tripRow k p) := by
    intro p
    rw [← hroot]
    refine root_apply x k _ (fun p q => ?_) p
    exact Eq.trans rfl (lane_squares x k p q)
  clear hroot
  repeat refine List.forall_mem_cons.2 ⟨stripe s x w k r hr _ _ _, ?_⟩
  exact fun p hp => absurd hp List.not_mem_nil

end Cert.NormKernel
end
-- ==== Proof.NormValue.lean ====
module

public import proofs.«01_k».proof.Proof.NormLoop

@[expose] public section

set_option maxRecDepth 16384

noncomputable section

namespace Cert.NormKernel

open Idealize.ShloMosaic Idealize.ShloMosaic.TcCoe Idealize.SL.Sem
open Idealize.ShloMosaic.Pipeline (Dat)
open Idealize.ShloMosaic.ValueIdx
open Cert.NormIdeal Cert.NormIdeal.Gen
open Cert.NormMath
open Cert.UpKernel (i0 idx1_eq)

/-- Every store of the trips before `n` holds the block's codes. -/
theorem loop_good (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x1792 .fp8e4m3) (harg5 : arg5.IsWhole) (arg6 : Memref sig .tc .vmem S1x1792 .f32) (harg6 : arg6.IsWhole) (arg7 : Memref sig .tc .vmem S256x7168 .fp8e4m3) (harg7 : arg7.IsWhole) (arg8 : Memref sig .tc .vmem S256x1792 .i8) (harg8 : arg8.IsWhole) (arg9 : Memref sig .tc .vmem S256x112 .fp8e4m3) (harg9 : arg9.IsWhole) (arg10 : Memref sig .tc .vmem S1792x128 .i32) (harg10 : arg10.IsWhole) (s : Elt Ideal .f32) (x : Vec Ideal S256x7168 .bf16) (w : Vec Ideal S1x7168 .f32) : ∀ n : Nat, n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 arg10 harg10 s (harg3.unread x) (harg4.unread w) n, ∀ z : p.1.shape.Idx, p.2 z = blockCode s x w (p.1.emb z)
  | 0, _ => fun _ hp => absurd hp List.not_mem_nil
  | n + 1, hn => by
    intro p hp
    have e := pb_k0_t1_succ (F := Ideal) 𝒱 c bd i arg1 harg1 arg2 harg2 arg3 harg3 arg4 harg4 arg5 harg5 arg6 harg6 arg7 harg7 arg8 harg8 arg9 harg9 arg10 harg10 s (harg3.unread x) (harg4.unread w) ⟨n, hn⟩
    rw [e] at hp
    rcases List.mem_append.1 hp with hp | hp
    · exact trip_good 𝒱 c bd i arg1 harg1 arg2 harg2 arg3 harg3 arg4 harg4 arg5 harg5 arg6 harg6 arg7 harg7 arg8 harg8 arg9 harg9 arg10 harg10 s x w ⟨n, hn⟩ p hp
    · exact loop_good 𝒱 c bd i arg1 harg1 arg2 harg2 arg3 harg3 arg4 harg4 arg5 harg5 arg6 harg6 arg7 harg7 arg8 harg8 arg9 harg9 arg10 harg10 s x w n (by omega) p hp

/-- What a point leaves in its block of the codes, element by element. -/
theorem out_eq (c : Dev nD) (i : grid0.Coords) (arg1 : Memref sig .tc .smem S1 .f32) (harg1 : arg1.IsWhole) (arg2 : Memref sig .tc .smem S1 .f32) (harg2 : arg2.IsWhole) (arg3 : Memref sig .tc .vmem S256x7168 .bf16) (harg3 : arg3.IsWhole) (arg4 : Memref sig .tc .vmem S1x7168 .f32) (harg4 : arg4.IsWhole) (arg5 : Memref sig .tc .vmem S7168x1792 .fp8e4m3) (harg5 : arg5.IsWhole) (arg6 : Memref sig .tc .vmem S1x1792 .f32) (harg6 : arg6.IsWhole) (arg7 : Memref sig .tc .vmem S256x7168 .fp8e4m3) (harg7 : arg7.IsWhole) (arg8 : Memref sig .tc .vmem S256x1792 .i8) (harg8 : arg8.IsWhole) (arg9 : Memref sig .tc .vmem S256x112 .fp8e4m3) (harg9 : arg9.IsWhole) (arg10 : Memref sig .tc .vmem S1792x128 .i32) (harg10 : arg10.IsWhole) (x0 x1 : Vec Ideal S1 .f32) (x2 : Vec Ideal S256x7168 .bf16) (x3 : Vec Ideal S1x7168 .f32) (x4 : Vec Ideal S7168x1792 .fp8e4m3) (x5 : Vec Ideal S1x1792 .f32) (y : S256x7168.Idx) :
    out0_A_6 (F := Ideal) c i arg1 harg1 arg2 harg2 arg3 harg3 arg4 harg4 arg5 harg5 arg6 harg6 arg7 harg7 arg8 harg8 arg9 harg9 arg10 harg10 x0 x1 x2 x3 x4 x5 y = blockCode (x0 i0) x2 x3 y := by
  have hc := cover0_A_6 (F := Ideal) c i arg1 harg1 arg2 harg2 arg3 harg3 arg4 harg4 arg5 harg5 arg6 harg6 arg7 harg7 arg8 harg8 arg9 harg9 arg10 harg10 x0 x1 x2 x3 x4 x5
  unfold out0_A_6
  rw [View.read_writes_eq_canon _ _ _ hc]
  refine View.canon_apply_of_pieces _ _ ?_ y (hc y)
  have hs : ∀ j : S1.Idx, View.readAt (Elt Ideal) arg1.view (Rect.unit ![0] S1.size inb_S1_S1_0).toLoadRect (harg1.unread x0) j = x0 i0 := fun j => by
    rw [View.readAt_eq_ld, harg1.read_unread]
    exact congrArg x0 (idx1_eq _)
  unfold kernelRun0_A
  dsimp only
  have hg : ∀ s : EReal, s = x0 i0 → ∀ p ∈ pb_k0_t1 (F := Ideal) Variants.none c none i arg1 harg1 arg2 harg2 arg3 harg3 arg4 harg4 arg5 harg5 arg6 harg6 arg7 harg7 arg8 harg8 arg9 harg9 arg10 harg10 s (harg3.unread x2) (harg4.unread x3) (Scf.trips 0#32 (Scalar.addi 0#32 8#32) 1#32),
      ∀ z : p.1.shape.Idx, p.2 z = blockCode (x0 i0) x2 x3 (p.1.emb z) := fun s e => e ▸ loop_good Variants.none c none i arg1 harg1 arg2 harg2 arg3 harg3 arg4 harg4 arg5 harg5 arg6 harg6 arg7 harg7 arg8 harg8 arg9 harg9 arg10 harg10 s x2 x3 _ (le_refl _)
  exact hg _ (hs _)

/-- The codes of a whole array: each row's, by the kernel's formula. -/
def codesOf (x : S4096x7168.Idx → EReal) (w : Fin 7168 → EReal) (sx : EReal) (i : S4096x7168.Idx) : EReal :=
  kernelCode (fun k => x (ix2 (i 0) k)) (w (i 1)) sx (i 1)

variable (m : (ℓ : Loc nD τ sig) → Buf (Elt Ideal) ℓ) (ρ : Dev nD → PrngReg)

/-- What the result array is shown to hold. -/
abbrev codes (c : Dev nD) : Buf (Elt Ideal) ((c : Thread nD τ).loc main_v2_0) :=
  codesOf (m ((c : Thread nD τ).loc main_arg0)) (fun q => m ((c : Thread nD τ).loc main_arg1) (ix1 q)) (m ((c : Thread nD τ).loc main_arg2) i0)

/-- The host reshape of the weights to one row keeps them. -/
theorem V_v0 (c : Dev nD) (q : Fin 7168) : V m c main_v0 (ix2 0 q) = m ((c : Thread nD τ).loc main_arg1) (ix1 q) := by
  show StableHlo.after hostOps0 (fun b => m (c, b)) (Proc.devRef .tc main_v0) (ix2 0 q) = _
  simp only [hostOps0, StableHlo.after_cons, StableHlo.after_nil]
  rw [StableHlo.reshape_result_ne _ _ _ _ _ _ _ (by decide), StableHlo.reshape_result']
  exact shapeCast_apply (s := S7168) (t := S1x7168) (m ((c : Thread nD τ).loc main_arg1)) shapeCasts_S7168_S1x7168 (ix2 0 q) (ix1 q) (by
    rw [Shape.rowMajor_val_one, Shape.rowMajor_val_two]
    show q.val = 0 * 7168 + q.val
    omega)

/-- How the blocks move: the rows with the result's rows, the weights not at all. -/
theorem idx_facts : ∀ t : Fin cfg0.N, win0_2.index t 0 = win0_6.index t 0 ∧ win0_2.index t 1 = 0 ∧ win0_3.index t 0 = 0 ∧ win0_3.index t 1 = 0 ∧ win0_6.index t 1 = 0 :=
  (by decide +kernel : ∀ t : Fin grid0.N, win0_2.index t 0 = win0_6.index t 0 ∧ win0_2.index t 1 = 0 ∧ win0_3.index t 0 = 0 ∧ win0_3.index t 1 = 0 ∧ win0_6.index t 1 = 0)

/-- Every block of rows of the result belongs to some point. -/
theorem idx_onto : ∀ a : Fin 16, ∃ t : Fin cfg0.N, win0_6.index t 0 = a.val :=
  (by decide +kernel : ∀ a : Fin 16, ∃ t : Fin grid0.N, win0_6.index t 0 = a.val)

/-- What a point writes back is its block of the whole array. -/
theorem flushed_eq (c : Dev nD) (t : Fin cfg0.N) :
    (dats m 0 c).flushed 6 t = ((cfg0.win 6).blk t).view.read (Elt Ideal) (codes m c) := by
  rw [Cert.NormIdeal.Value.flushed6_A]
  funext y
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) y).trans ?_
  obtain ⟨f0, f1, f2, f3, f4⟩ := idx_facts t
  obtain ⟨r, q, rfl⟩ : ∃ (r : Fin 256) (q : Fin 7168), y = ix2 r q := ⟨y 0, y 1, eq_ix2 y⟩
  have hb : win0_6.index t 0 * 256 + r.val < 4096 := by
    have h : (((cfg0.win 6).blk t).view.emb (ix2 r q) 0).val < 4096 := (((cfg0.win 6).blk t).view.emb (ix2 r q) 0).isLt
    have h' : (((cfg0.win 6).blk t).view.emb (ix2 r q) 0).val = win0_6.index t 0 * 256 + 1 * r.val := rfl
    omega
  have he : ((cfg0.win 6).blk t).view.emb (ix2 r q) = (ix2 ⟨win0_6.index t 0 * 256 + r.val, hb⟩ q : S4096x7168.Idx) := Shape.idx_ext₂
    (by show win0_6.index t 0 * 256 + 1 * r.val = win0_6.index t 0 * 256 + r.val; omega)
    (by show win0_6.index t 1 * 7168 + 1 * q.val = q.val; rw [f4]; omega)
  refine Eq.trans ?_ (congrArg (codes m c) he).symm
  have e0 : iblk m c 0 t i0 = m ((c : Thread nD τ).loc main_arg2) i0 :=
    (congrArg (V m c main_arg2) (idx1_eq _)).trans (congrFun (V_main_arg2 m c) _)
  have e2 : ∀ k : Fin 7168, iblk m c 2 t (ix2 r k) = m ((c : Thread nD τ).loc main_arg0) (ix2 ⟨win0_6.index t 0 * 256 + r.val, hb⟩ k) := fun k =>
    (congrArg (V m c main_arg0) (Shape.idx_ext₂
      (by show win0_2.index t 0 * 256 + 1 * r.val = win0_6.index t 0 * 256 + r.val; rw [f0]; omega)
      (by show win0_2.index t 1 * 7168 + 1 * k.val = k.val; rw [f1]; omega))).trans (congrFun (V_main_arg0 m c) _)
  have e3 : iblk m c 3 t (ix2 0 q) = m ((c : Thread nD τ).loc main_arg1) (ix1 q) :=
    (congrArg (V m c main_v0) (Shape.idx_ext₂
      (by show win0_3.index t 0 * 1 + 1 * 0 = 0; rw [f2])
      (by show win0_3.index t 1 * 7168 + 1 * q.val = q.val; rw [f3]; omega))).trans (V_v0 m c q)
  show kernelCode (fun k => iblk m c 2 t (ix2 r k)) (iblk m c 3 t (ix2 0 q)) (iblk m c 0 t i0) q = kernelCode _ _ _ q
  rw [e0, e3, funext e2]

/-- Every element of the array is written back at some point. -/
theorem cover (i : S4096x7168.Idx) : ∃ t : Fin cfg0.N, (cfg0.win 6).flush t = true ∧ i ∈ ((cfg0.win 6).blk t).view.set := by
  have h0 : (i 0).val < 4096 := (i 0).isLt
  have h1 : (i 1).val < 7168 := (i 1).isLt
  obtain ⟨t, ht⟩ := idx_onto ⟨(i 0).val / 256, by omega⟩
  refine ⟨t, flush0_6 t, ?_⟩
  show i ∈ ((View.whole main_v2_0).slice (win0_6.rect t)).set
  rw [View.set_slice_whole, Rect.mem_set_unit]
  intro a
  match a with
  | ⟨0, _⟩ => show win0_6.index t 0 * 256 ≤ (i 0).val ∧ (i 0).val < win0_6.index t 0 * 256 + 256
              rw [ht]; dsimp only; omega
  | ⟨1, _⟩ => show win0_6.index t 1 * 7168 ≤ (i 1).val ∧ (i 1).val < win0_6.index t 1 * 7168 + 7168
              rw [(idx_facts t).2.2.2.2]; omega

/-- The result array after the run. -/
theorem final (c : Dev nD) : (dats m 0 c).arrAt 6 cfg0.N = codes m c :=
  (dats m 0 c).arrAt_eq_of_cover 6 (codes m c) (fun t _ => flushed_eq m c t) cover

end Cert.NormKernel
end
-- ==== Proof.NormRef.lean ====
module

public import proofs.«01_k».proof.Proof.NormMath
public import proofs.«01_k».proof.Proof.Gen.RefNormIdeal.Value

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.NormRef

open Cert.RefNormIdeal Cert.RefNormIdeal.Gen
open Cert.NormMath
open Cert.UpKernel (zero2 clip8 i0 idx1_eq)

/-- The reference's payload, element by element. -/
theorem pay_apply (x : FVec Ideal S4096x7168 .bf16) (w : FVec Ideal S1x7168 .f32) (s : FVec Ideal S1x1 .f32) (r : Fin 4096) (q : Fin 7168) :
    k0_pay1 (F := Ideal) x w s (ix2 r q) = referenceCode (fun k => x (ix2 r k)) (w (ix2 0 q)) (s (ix2 0 0)) q := by
  have e1 := rowSum_apply (mulf (F := Ideal) (extf .f32 x bitsLt_bf16_f32) (extf .f32 x bitsLt_bf16_f32)) reduces_S4096x7168_S4096 shapeCasts_S4096_S4096x1 (.inl rfl) rfl r 0
  have e2 : ∀ v : FVec Ideal S4096x1 .f32, broadcastTo S4096x7168 v broadcasts_S4096x1_S4096x7168 (ix2 r q) = v (ix2 r 0) := fun v =>
    broadcastTo_apply v _ _ _ fun a => by match a with | ⟨0, _⟩ => rfl | ⟨1, _⟩ => rfl
  have e3 : ∀ v : FVec Ideal S1x7168 .f32, broadcastTo S4096x7168 v broadcasts_S1x7168_S4096x7168 (ix2 r q) = v (ix2 0 q) := fun v =>
    broadcastTo_apply v _ _ _ fun a => by match a with | ⟨0, _⟩ => rfl | ⟨1, _⟩ => rfl
  have e4 : ∀ v : FVec Ideal S1x1 .f32, broadcastTo S4096x7168 v broadcasts_S1x1_S4096x7168 (ix2 r q) = v (ix2 0 0) := fun v =>
    broadcastTo_apply v _ _ _ fun a => by match a with | ⟨0, _⟩ => rfl | ⟨1, _⟩ => rfl
  unfold k0_pay1
  simp only [shapeCast_self]
  generalize hM : shapeCast S4096x1 _ _ = M
  rw [truncf_apply, minimumf_apply, maximumf_apply, divf_apply, mulf_apply, divf_apply, extf_apply, broadcast_apply, broadcast_apply, e2, e3, e4]
  have h : M (ix2 r 0) = squares fun k => x (ix2 r k) := by
    rw [← hM]
    exact e1
  unfold referenceCode
  rw [← h]
  rfl

variable (m : (ℓ : Loc nD τ sig) → Buf (Elt Ideal) ℓ) (ρ : Dev nD → PrngReg)

/-- The codes of a whole array: each row's, by the reference's formula. -/
def codesOf (x : S4096x7168.Idx → EReal) (w : Fin 7168 → EReal) (sx : EReal) (i : S4096x7168.Idx) : EReal :=
  referenceCode (fun k => x (ix2 (i 0) k)) (w (i 1)) sx (i 1)

/-- What the reference's result array is shown to hold. -/
abbrev codes (c : Dev nD) : Buf (Elt Ideal) ((c : Thread nD τ).loc main_v2) :=
  codesOf (m ((c : Thread nD τ).loc main_arg0)) (fun q => m ((c : Thread nD τ).loc main_arg1) (ix1 q)) (m ((c : Thread nD τ).loc main_arg2) i0)

/-- The host reshape of the weights to one row keeps them. -/
theorem V_v0 (c : Dev nD) (q : Fin 7168) : V m c main_v0 (ix2 0 q) = m ((c : Thread nD τ).loc main_arg1) (ix1 q) := by
  show StableHlo.after hostOps0 (fun b => m (c, b)) (Proc.devRef .tc main_v0) (ix2 0 q) = _
  simp only [hostOps0, StableHlo.after_cons, StableHlo.after_nil]
  rw [StableHlo.reshape_result_ne _ _ _ _ _ _ _ (by decide), StableHlo.reshape_result']
  exact shapeCast_apply (s := S7168) (t := S1x7168) (m ((c : Thread nD τ).loc main_arg1)) shapeCasts_S7168_S1x7168 (ix2 0 q) (ix1 q) (by
    rw [Shape.rowMajor_val_one, Shape.rowMajor_val_two]
    show q.val = 0 * 7168 + q.val
    omega)

/-- The host reshape of the scale keeps its element. -/
theorem V_v1 (c : Dev nD) : V m c main_v1 (ix2 0 0) = m ((c : Thread nD τ).loc main_arg2) i0 := by
  show StableHlo.after hostOps0 (fun b => m (c, b)) (Proc.devRef .tc main_v1) (ix2 0 0) = _
  simp only [hostOps0, StableHlo.after_cons, StableHlo.after_nil]
  rw [StableHlo.reshape_result', StableHlo.reshape_result_ne _ _ _ _ _ _ _ (by decide)]
  exact congrArg (m ((c : Thread nD τ).loc main_arg2)) (idx1_eq _)

/-- Every window's one block is its whole array. -/
theorem idx_zero : ∀ (t : Fin cfg0.N) (a : Fin 2), win0_0.index t a = 0 ∧ win0_1.index t a = 0 ∧ win0_2.index t a = 0 ∧ win0_3.index t a = 0 :=
  (by decide +kernel : ∀ (t : Fin grid0.N) (a : Fin 2), win0_0.index t a = 0 ∧ win0_1.index t a = 0 ∧ win0_2.index t a = 0 ∧ win0_3.index t a = 0)

/-- The rows. -/
theorem blk0 (c : Dev nD) (t : Fin cfg0.N) (r : Fin 4096) (q : Fin 7168) : iblk m c 0 t (ix2 r q) = m ((c : Thread nD τ).loc main_arg0) (ix2 r q) := by
  refine (congrArg (V m c main_arg0) (Shape.idx_ext₂ ?_ ?_)).trans (congrFun (V_main_arg0 m c) _)
  · show win0_0.index t 0 * 4096 + 1 * r.val = r.val
    rw [(idx_zero t 0).1]; omega
  · show win0_0.index t 1 * 7168 + 1 * q.val = q.val
    rw [(idx_zero t 1).1]; omega

/-- The weights. -/
theorem blk1 (c : Dev nD) (t : Fin cfg0.N) (q : Fin 7168) : iblk m c 1 t (ix2 0 q) = m ((c : Thread nD τ).loc main_arg1) (ix1 q) := by
  refine (congrArg (V m c main_v0) (Shape.idx_ext₂ ?_ ?_)).trans (V_v0 m c q)
  · show win0_1.index t 0 * 1 + 1 * 0 = 0
    rw [(idx_zero t 0).2.1]
  · show win0_1.index t 1 * 7168 + 1 * q.val = q.val
    rw [(idx_zero t 1).2.1]; omega

/-- The scale. -/
theorem blk2 (c : Dev nD) (t : Fin cfg0.N) : iblk m c 2 t (ix2 0 0) = m ((c : Thread nD τ).loc main_arg2) i0 := by
  refine (congrArg (V m c main_v1) (Shape.idx_ext₂ ?_ ?_)).trans (V_v1 m c)
  · show win0_2.index t 0 * 1 + 1 * 0 = 0
    rw [(idx_zero t 0).2.2.1]
  · show win0_2.index t 1 * 1 + 1 * 0 = 0
    rw [(idx_zero t 1).2.2.1]

/-- What the one point writes back is the whole array of codes. -/
theorem flushed_eq (c : Dev nD) (t : Fin cfg0.N) : (dats m 0 c).flushed 3 t = ((cfg0.win 3).blk t).view.read (Elt Ideal) (codes m c) := by
  rw [Cert.RefNormIdeal.Value.flushed3]
  unfold out0_3
  rw [View.canon_unit_zero zero2, View.ld_unit_zero zero2, View.ld_unit_zero zero2, View.ld_unit_zero zero2]
  funext y
  obtain ⟨r, q, rfl⟩ : ∃ (r : Fin 4096) (q : Fin 7168), y = ix2 r q := ⟨y 0, y 1, eq_ix2 y⟩
  have he : ((cfg0.win 3).blk t).view.emb (ix2 r q) = (ix2 r q : S4096x7168.Idx) := Shape.idx_ext₂
    (by show win0_3.index t 0 * 4096 + 1 * r.val = r.val; rw [(idx_zero t 0).2.2.2]; omega)
    (by show win0_3.index t 1 * 7168 + 1 * q.val = q.val; rw [(idx_zero t 1).2.2.2]; omega)
  refine Eq.trans ?_ (congrArg (codes m c) he).symm
  refine (pay_apply (iblk m c 0 t) (iblk m c 1 t) (iblk m c 2 t) r q).trans ?_
  rw [blk1, blk2, funext (blk0 m c t r)]
  rfl

/-- The one point writes back the whole array. -/
theorem cover (i : S4096x7168.Idx) : ∃ t : Fin cfg0.N, (cfg0.win 3).flush t = true ∧ i ∈ ((cfg0.win 3).blk t).view.set := by
  have h0 : (i 0).val < 4096 := (i 0).isLt
  have h1 : (i 1).val < 7168 := (i 1).isLt
  have ht : 0 < cfg0.N := by rw [show cfg0.N = 1 from N_0]; omega
  refine ⟨⟨0, ht⟩, flush0_3 _, ?_⟩
  show i ∈ ((View.whole main_v2).slice (win0_3.rect ⟨0, ht⟩)).set
  rw [View.set_slice_whole, Rect.mem_set_unit]
  intro a
  match a with
  | ⟨0, _⟩ => show win0_3.index ⟨0, ht⟩ 0 * 4096 ≤ (i 0).val ∧ (i 0).val < win0_3.index ⟨0, ht⟩ 0 * 4096 + 4096
              rw [(idx_zero _ 0).2.2.2]; omega
  | ⟨1, _⟩ => show win0_3.index ⟨0, ht⟩ 1 * 7168 ≤ (i 1).val ∧ (i 1).val < win0_3.index ⟨0, ht⟩ 1 * 7168 + 7168
              rw [(idx_zero _ 1).2.2.2]; omega

/-- The reference's result array after its run. -/
theorem final (c : Dev nD) : (dats m 0 c).arrAt 3 cfg0.N = codes m c :=
  (dats m 0 c).arrAt_eq_of_cover 3 (codes m c) (fun t _ => flushed_eq m c t) cover

end Cert.NormRef
end
-- ==== Proof.NormClaims.lean ====
module

public import proofs.«01_k».proof.Proof.NormValue
public import proofs.«01_k».proof.Proof.NormRef
public import proofs.«01_k».proof.Defs

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.NormClaims

open Cert.UpKernel (i0 idx1_eq)

/-- The shape fact the precondition states. -/
theorem preFacts : Cert.Pre_x_scale_not_zero.Facts where
  shapeCasts_S1_S_ := by decide

/-- The precondition, read: the scale is not zero. -/
theorem scale_ne_zero (m : (ℓ : Loc Cert.NormIdeal.nD Cert.NormIdeal.τ Cert.NormIdeal.sig) → Buf (Elt Ideal) ℓ)
    (h : Cert.Pre_NormIdeal_x_scale_not_zero (hPre_x_scale_not_zero := preFacts) m) (c : Dev Cert.NormIdeal.nD) :
    m ((c : Thread Cert.NormIdeal.nD Cert.NormIdeal.τ).loc Cert.NormIdeal.main_arg2) i0 ≠ (0 : EReal) := by
  intro h0
  have h1 := congrFun (h c) ix0
  unfold Cert.Pre_x_scale_not_zero.fn at h1
  have e : shapeCast Cert.Pre_x_scale_not_zero.S_ (m ((c : Thread Cert.NormIdeal.nD Cert.NormIdeal.τ).loc Cert.NormIdeal.main_arg2)) preFacts.shapeCasts_S1_S_ ix0 = (0 : EReal) :=
    (congrArg (m ((c : Thread Cert.NormIdeal.nD Cert.NormIdeal.τ).loc Cert.NormIdeal.main_arg2)) (idx1_eq _)).trans h0
  have e2 : Ideal.cmp .une (shapeCast Cert.Pre_x_scale_not_zero.S_ (m ((c : Thread Cert.NormIdeal.nD Cert.NormIdeal.τ).loc Cert.NormIdeal.main_arg2)) preFacts.shapeCasts_S1_S_ ix0) (Ideal.ofBits .f32 0#32) = 1#1 := h1
  rw [e, Ideal.ofBits_zero_f32] at e2
  simp [Ideal.cmp] at e2

/-- The kernel's constant is the reciprocal of the row length, rounded. -/
theorem preserves : Cert.preserves_Norm_NormIdeal :=
  IdealRules.named_const.statement Cert.NormIdeal.κ "inv_d_model" .f32 0x39124925#32 ((1 / 7168 : ℝ) : EReal) rfl

/-- Where the scale is not zero, the kernel's codes are the reference's, on the same arguments. -/
theorem algebraic : Cert.algebraic_NormIdeal_RefNormIdeal_pre_x_scale_not_zero (hNormIdeal := Cert.NormIdeal.Gen.facts) (hRefNormIdeal := Cert.RefNormIdeal.Gen.facts) (hPre_x_scale_not_zero := preFacts) := by
  intro m g m' g' hpre hargs
  refine ⟨fun c => Cert.NormKernel.codes m c, ?_, ?_⟩
  · refine (θ_run (Cert.NormIdeal.defs (F := Ideal)) _ _).mono (fun r h c => ?_) (Cert.NormIdeal.Value.run_blocks m g)
    exact ⟨(h c).1.trans (Cert.NormKernel.final m c), (h c).2⟩
  · refine (θ_run (Cert.RefNormIdeal.defs (F := Ideal)) _ _).mono (fun r h c => ?_) (Cert.RefNormIdeal.Value.run_blocks m' g')
    refine ⟨(h c).1.trans ((Cert.NormRef.final m' c).trans ?_), (h c).2⟩
    funext i
    show Cert.NormRef.codesOf _ _ _ i = Cert.NormKernel.codesOf _ _ _ i
    obtain ⟨a0, a1, a2, a3, a4, a5⟩ := hargs c
    rw [a0, a1, a2]
    exact (Cert.NormMath.code_eq _ _ _ _ (scale_ne_zero m hpre c)).symm

end Cert.NormClaims
end
-- ==== Proof.lean ====
module

public import proofs.«01_k».proof.Defs
public import proofs.«01_k».proof.Proof.Gen.SharedUp
public import proofs.«01_k».proof.Proof.Gen.SharedUp.Frame
public import proofs.«01_k».proof.Proof.Gen.SharedUpIdeal
public import proofs.«01_k».proof.Proof.Gen.SharedUpIdeal.Frame
public import proofs.«01_k».proof.Proof.Gen.SharedUpIdeal.Value
public import proofs.«01_k».proof.Proof.Gen.RefUpIdeal
public import proofs.«01_k».proof.Proof.Gen.RefUpIdeal.Frame
public import proofs.«01_k».proof.Proof.Gen.RefUpIdeal.Value
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.RefDownIdeal
public import proofs.«01_k».proof.Proof.Gen.RefDownIdeal.Frame
public import proofs.«01_k».proof.Proof.Gen.RefDownIdeal.Value
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.RefDownIdeal.Skeleton
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.RefNormIdeal
public import proofs.«01_k».proof.Proof.Gen.RefNormIdeal.Frame
public import proofs.«01_k».proof.Proof.Gen.RefNormIdeal.Value
public import proofs.«01_k».proof.Proof.UpValue
public import proofs.«01_k».proof.Proof.DownBits
public import proofs.«01_k».proof.Proof.DownClaims
public import proofs.«01_k».proof.Proof.NormClaims

@[expose] public section

noncomputable section

namespace Cert.Proof

open Idealize.ShloMosaic Idealize.SL.Sem

/-- Everything that is claimed of the calls. -/
theorem claim : Cert.Claim := ⟨Cert.SharedUp.Gen.facts, Cert.SharedUpIdeal.Gen.facts, Cert.RefUpIdeal.Gen.facts,
  Cert.Down.Gen.facts, Cert.DownIdeal.Gen.facts, Cert.RefDownIdeal.Gen.facts,
  Cert.Norm.Gen.facts, Cert.NormIdeal.Gen.facts, Cert.RefNormIdeal.Gen.facts, Cert.UpClaims.preFacts, Cert.NormClaims.preFacts,
  fun m ρ _ => Cert.SharedUp.Gen.frame m ρ,
  fun m ρ _ => Cert.SharedUpIdeal.Gen.frame m ρ,
  fun m ρ _ => Cert.SharedUpIdeal.Gen.frame m ρ,
  fun m ρ _ => Cert.RefUpIdeal.Gen.frame m ρ,
  fun m ρ _ => Cert.RefUpIdeal.Gen.frame m ρ,
  fun m ρ _ => Cert.DownKernel.frame_bits m ρ,
  fun m ρ _ => Cert.DownKernel.frame m ρ,
  fun m ρ _ => Cert.RefDownIdeal.Gen.frame m ρ,
  fun m ρ _ => Cert.Norm.Gen.frame m ρ,
  fun m ρ _ => Cert.NormIdeal.Gen.frame m ρ,
  fun m ρ _ => Cert.NormIdeal.Gen.frame m ρ,
  fun m ρ _ => Cert.RefNormIdeal.Gen.frame m ρ,
  fun m ρ _ => Cert.RefNormIdeal.Gen.frame m ρ,
  trivial,
  Cert.UpClaims.algebraic,
  trivial,
  Cert.DownClaims.algebraic,
  Cert.NormClaims.preserves,
  Cert.NormClaims.algebraic⟩

end Cert.Proof

end
